-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "neg_big" .f32 0xFF61B1E6#32 ⊥

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S16x8x1024 : Shape := ⟨3, ![16, 8, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S64x1024x1024 : Shape := ⟨3, ![64, 1024, 1024]⟩
abbrev S64x1024 : Shape := ⟨2, ![64, 1024]⟩
abbrev S_ : Shape := ⟨0, ![]⟩

class Facts : Prop where
  bcast_S_S16x8x1024 : S_.BroadcastsInDim S16x8x1024 (![] : Fin 0 → Fin S16x8x1024.rank)
  reducesTo_S16x8x1024_S_d0_1_2 : S16x8x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S1024 .f32) (main_arg5 : FVec F S1024x64 .f32) (main_arg6 : FVec F S64 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16x8x1024 .f32) (main_arg1 : FVec F S1024x4096 .f32) (main_arg2 : FVec F S4096 .f32) (main_arg3 : FVec F S4096x1024 .f32) (main_arg4 : FVec F S1024 .f32) (main_arg5 : FVec F S1024x64 .f32) (main_arg6 : FVec F S64 .f32) (main_arg7 : FVec F S64x1024x1024 .f32) (main_arg8 : FVec F S64x1024 .f32) (main_arg9 : FVec F S64x1024x1024 .f32) (main_arg10 : FVec F S64x1024 .f32) : IVec S_ 1 :=
  let main_v0 : FVec F S16x8x1024 .f32 := Host.absf main_arg0
  let main_cst : FVec F S_ .f32 := constant S_ .f32 0x7F800000#32
  let main_v1 : FVec F S16x8x1024 .f32 := broadcastInDim S16x8x1024 ![] bcast_S_S16x8x1024 main_cst
  let main_v2 : IVec S16x8x1024 1 := cmpf .olt main_v0 main_v1
  let main_c : IVec S_ 1 := constantI S_ 1 1#1
  let main_v3 : IVec S_ 1 := (fun x v => Host.reduce IntOp.andi x v reducesTo_S16x8x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S16x8x1024 : Shape := ⟨3, ![16, 8, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S64x1024x1024 : Shape := ⟨3, ![64, 1024, 1024]⟩
abbrev S64x1024 : Shape := ⟨2, ![64, 1024]⟩
abbrev S128x1024 : Shape := ⟨2, ![128, 1024]⟩
abbrev S2x1x2048 : Shape := ⟨3, ![2, 1, 2048]⟩
abbrev S1x1024 : Shape := ⟨2, ![1, 1024]⟩
abbrev S64x1 : Shape := ⟨2, ![64, 1]⟩
abbrev S8x64x16 : Shape := ⟨3, ![8, 64, 16]⟩
abbrev S1024x2048 : Shape := ⟨2, ![1024, 2048]⟩
abbrev S1x1x2048 : Shape := ⟨3, ![1, 1, 2048]⟩
abbrev S2048x1024 : Shape := ⟨2, ![2048, 1024]⟩
abbrev S128x2048 : Shape := ⟨2, ![128, 2048]⟩
abbrev S1x2048 : Shape := ⟨2, ![1, 2048]⟩
abbrev S64x128 : Shape := ⟨2, ![64, 128]⟩
abbrev S64x16 : Shape := ⟨2, ![64, 16]⟩
abbrev S1x64x16 : Shape := ⟨3, ![1, 64, 16]⟩
abbrev S_ : Shape := ⟨0, ![]⟩
abbrev S1x16 : Shape := ⟨2, ![1, 16]⟩
abbrev S16 : Shape := ⟨1, ![16]⟩
abbrev S64x1x1024 : Shape := ⟨3, ![64, 1, 1024]⟩
abbrev S1x1024x512 : Shape := ⟨3, ![1, 1024, 512]⟩
abbrev S1x1x512 : Shape := ⟨3, ![1, 1, 512]⟩
abbrev S1x512x1024 : Shape := ⟨3, ![1, 512, 1024]⟩
abbrev S128x1 : Shape := ⟨2, ![128, 1]⟩
abbrev S1024x512 : Shape := ⟨2, ![1024, 512]⟩
abbrev S128x512 : Shape := ⟨2, ![128, 512]⟩
abbrev S1x512 : Shape := ⟨2, ![1, 512]⟩
abbrev S512x1024 : Shape := ⟨2, ![512, 1024]⟩

abbrev nBuf : Table → Nat
  | .hbm => 22
  | .local .tc .vmem => 31
  | .local .scVector .vmem => 2
  | _ => 0

abbrev bufTy : (tb : Table) → Fin (nBuf tb) → BufTy
  | .hbm, ⟨0, _⟩ => ⟨S16x8x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S1024x64, .f32⟩
  | .hbm, ⟨6, _⟩ => ⟨S64, .f32⟩
  | .hbm, ⟨7, _⟩ => ⟨S64x1024x1024, .f32⟩
  | .hbm, ⟨8, _⟩ => ⟨S64x1024, .f32⟩
  | .hbm, ⟨9, _⟩ => ⟨S64x1024x1024, .f32⟩
  | .hbm, ⟨10, _⟩ => ⟨S64x1024, .f32⟩
  | .hbm, ⟨11, _⟩ => ⟨S128x1024, .f32⟩
  | .hbm, ⟨12, _⟩ => ⟨S2x1x2048, .f32⟩
  | .hbm, ⟨13, _⟩ => ⟨S1x1024, .f32⟩
  | .hbm, ⟨14, _⟩ => ⟨S64x1, .f32⟩
  | .hbm, ⟨15, _⟩ => ⟨S128x1024, .f32⟩
  | .hbm, ⟨16, _⟩ => ⟨S8x64x16, .f32⟩
  | .hbm, ⟨17, _⟩ => ⟨S8x64x16, .f32⟩
  | .hbm, ⟨18, _⟩ => ⟨S64x1x1024, .f32⟩
  | .hbm, ⟨19, _⟩ => ⟨S64x1x1024, .f32⟩
  | .hbm, ⟨20, _⟩ => ⟨S128x1024, .f32⟩
  | .hbm, ⟨21, _⟩ => ⟨S16x8x1024, .f32⟩
  | .local .tc .vmem, ⟨0, _⟩ => ⟨S128x1024, .f32⟩
  | .local .tc .vmem, ⟨1, _⟩ => ⟨S1024x2048, .f32⟩
  | .local .tc .vmem, ⟨2, _⟩ => ⟨S1024x2048, .f32⟩
  | .local .tc .vmem, ⟨3, _⟩ => ⟨S1x1x2048, .f32⟩
  | .local .tc .vmem, ⟨4, _⟩ => ⟨S1x1x2048, .f32⟩
  | .local .tc .vmem, ⟨5, _⟩ => ⟨S2048x1024, .f32⟩
  | .local .tc .vmem, ⟨6, _⟩ => ⟨S2048x1024, .f32⟩
  | .local .tc .vmem, ⟨7, _⟩ => ⟨S1x1024, .f32⟩
  | .local .tc .vmem, ⟨8, _⟩ => ⟨S1024x64, .f32⟩
  | .local .tc .vmem, ⟨9, _⟩ => ⟨S64x1, .f32⟩
  | .local .tc .vmem, ⟨10, _⟩ => ⟨S128x1024, .f32⟩
  | .local .tc .vmem, ⟨11, _⟩ => ⟨S8x64x16, .f32⟩
  | .local .tc .vmem, ⟨12, _⟩ => ⟨S128x1024, .f32⟩
  | .local .tc .vmem, ⟨13, _⟩ => ⟨S128x1024, .f32⟩
  | .local .tc .vmem, ⟨14, _⟩ => ⟨S8x64x16, .f32⟩
  | .local .tc .vmem, ⟨15, _⟩ => ⟨S1x1024x512, .f32⟩
  | .local .tc .vmem, ⟨16, _⟩ => ⟨S1x1024x512, .f32⟩
  | .local .tc .vmem, ⟨17, _⟩ => ⟨S1x1024x512, .f32⟩
  | .local .tc .vmem, ⟨18, _⟩ => ⟨S1x1024x512, .f32⟩
  | .local .tc .vmem, ⟨19, _⟩ => ⟨S1x1x512, .f32⟩
  | .local .tc .vmem, ⟨20, _⟩ => ⟨S1x1x512, .f32⟩
  | .local .tc .vmem, ⟨21, _⟩ => ⟨S1x1x512, .f32⟩
  | .local .tc .vmem, ⟨22, _⟩ => ⟨S1x1x512, .f32⟩
  | .local .tc .vmem, ⟨23, _⟩ => ⟨S1x512x1024, .f32⟩
  | .local .tc .vmem, ⟨24, _⟩ => ⟨S1x512x1024, .f32⟩
  | .local .tc .vmem, ⟨25, _⟩ => ⟨S1x512x1024, .f32⟩
  | .local .tc .vmem, ⟨26, _⟩ => ⟨S1x512x1024, .f32⟩
  | .local .tc .vmem, ⟨27, _⟩ => ⟨S64x1024, .f32⟩
  | .local .tc .vmem, ⟨28, _⟩ => ⟨S128x1024, .f32⟩
  | .local .tc .vmem, ⟨29, _⟩ => ⟨S128x1024, .f32⟩
  | .local .tc .vmem, ⟨30, _⟩ => ⟨S64x128, .f32⟩
  | .local .scVector .vmem, ⟨0, _⟩ => ⟨S64x16, .f32⟩
  | .local .scVector .vmem, ⟨1, _⟩ => ⟨S64x16, .f32⟩
  | _, _ => ⟨S16x8x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v4_1_scv : Ref sig .scVector := ⟨.hbm, 16, rfl⟩
abbrev main_v5_scv : Ref sig .scVector := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg9_0 : Ref sig .tc := ⟨.vmem, 28, rfl⟩
abbrev cc2_scratch0 : Ref sig .tc := ⟨.vmem, 29, rfl⟩
abbrev cc2_scratch1 : Ref sig .tc := ⟨.vmem, 30, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc2_sem0_0 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem9_0 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c1_i32 : BitVec 32 := 1#32
  let v18 : BitVec 1 := Scalar.cmpi .eq arg0 c1_i32
  let v19 : BitVec 32 := Scalar.extui v18
  let c0_i32_13 : BitVec 32 := 0#32
  let v20 : BitVec 1 := Scalar.cmpi .ne v19 c0_i32_13
  v20

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_710_r0 : BitVec 32 := 0#32
  let c0_i32_711_r0 : BitVec 32 := 0#32
  ![v1.toNat, 0, 0]
abbrev grid2 : Pipeline.Grid := ⟨1, ![64], ![false]⟩

def k2_cond2 (i : grid2.Coords) : BitVec 1 :=
  let arg0 : BitVec 32 := BitVec.ofNat 32 (i 0).val
  let c63_i32 : BitVec 32 := 63#32
  let v48 : BitVec 1 := Scalar.cmpi .eq arg0 c63_i32
  let v49 : BitVec 32 := Scalar.extui v48
  let c0_i32_34 : BitVec 32 := 0#32
  let v50 : BitVec 1 := Scalar.cmpi .ne v49 c0_i32_34
  v50

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S8x64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S64x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg_big" => some ⊥
  | _ => none
-- ==== ReferenceIdeal.lean ====
abbrev S16x8x1024 : Shape := ⟨3, ![16, 8, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S64x1024x1024 : Shape := ⟨3, ![64, 1024, 1024]⟩
abbrev S64x1024 : Shape := ⟨2, ![64, 1024]⟩
abbrev S16x8x4096 : Shape := ⟨3, ![16, 8, 4096]⟩
abbrev S1x1x4096 : Shape := ⟨3, ![1, 1, 4096]⟩
abbrev S_ : Shape := ⟨0, ![]⟩
abbrev S1x1x1024 : Shape := ⟨3, ![1, 1, 1024]⟩
abbrev S128x1024 : Shape := ⟨2, ![128, 1024]⟩
abbrev S128x64 : Shape := ⟨2, ![128, 64]⟩
abbrev S1x64 : Shape := ⟨2, ![1, 64]⟩
abbrev S128x2 : Shape := ⟨2, ![128, 2]⟩
abbrev S128 : Shape := ⟨1, ![128]⟩
abbrev S128x1 : Shape := ⟨2, ![128, 1]⟩
abbrev S64x1024x128 : Shape := ⟨3, ![64, 1024, 128]⟩
abbrev S64x128x1024 : Shape := ⟨3, ![64, 128, 1024]⟩
abbrev S64x1x1024 : Shape := ⟨3, ![64, 1, 1024]⟩
abbrev S128x64x1024 : Shape := ⟨3, ![128, 64, 1024]⟩
abbrev S128x2x1 : Shape := ⟨3, ![128, 2, 1]⟩
abbrev S1 : Shape := ⟨1, ![1]⟩
abbrev S1x1x1 : Shape := ⟨3, ![1, 1, 1]⟩
abbrev S128x2x1024 : Shape := ⟨3, ![128, 2, 1024]⟩

abbrev nBuf : Space → Nat
  | .hbm => 85
  | .vmem => 0
  | .smem => 0
  | _ => 0

abbrev bufTy : (tb : Table) → Fin (tcTables nBuf tb) → BufTy
  | .hbm, ⟨0, _⟩ => ⟨S16x8x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S1024x64, .f32⟩
  | .hbm, ⟨6, _⟩ => ⟨S64, .f32⟩
  | .hbm, ⟨7, _⟩ => ⟨S64x1024x1024, .f32⟩
  | .hbm, ⟨8, _⟩ => ⟨S64x1024, .f32⟩
  | .hbm, ⟨9, _⟩ => ⟨S64x1024x1024, .f32⟩
  | .hbm, ⟨10, _⟩ => ⟨S64x1024, .f32⟩
  | .hbm, ⟨11, _⟩ => ⟨S16x8x4096, .f32⟩
  | .hbm, ⟨12, _⟩ => ⟨S1x1x4096, .f32⟩
  | .hbm, ⟨13, _⟩ => ⟨S16x8x4096, .f32⟩
  | .hbm, ⟨14, _⟩ => ⟨S16x8x4096, .f32⟩
  | .hbm, ⟨15, _⟩ => ⟨S_, .f32⟩
  | .hbm, ⟨16, _⟩ => ⟨S16x8x4096, .f32⟩
  | .hbm, ⟨17, _⟩ => ⟨S16x8x4096, .f32⟩
  | .hbm, ⟨18, _⟩ => ⟨S16x8x1024, .f32⟩
  | .hbm, ⟨19, _⟩ => ⟨S1x1x1024, .f32⟩
  | .hbm, ⟨20, _⟩ => ⟨S16x8x1024, .f32⟩
  | .hbm, ⟨21, _⟩ => ⟨S16x8x1024, .f32⟩
  | .hbm, ⟨22, _⟩ => ⟨S128x1024, .f32⟩
  | .hbm, ⟨23, _⟩ => ⟨S128x64, .f32⟩
  | .hbm, ⟨24, _⟩ => ⟨S1x64, .f32⟩
  | .hbm, ⟨25, _⟩ => ⟨S128x64, .f32⟩
  | .hbm, ⟨26, _⟩ => ⟨S128x64, .f32⟩
  | .hbm, ⟨27, _⟩ => ⟨S128x2, .f32⟩
  | .hbm, ⟨28, _⟩ => ⟨S128x2, .i32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128x1, .f32⟩
  | .hbm, ⟨35, _⟩ => ⟨S128x2, .f32⟩
  | .hbm, ⟨36, _⟩ => ⟨S128x2, .f32⟩
  | .hbm, ⟨37, _⟩ => ⟨S128x2, .f32⟩
  | .hbm, ⟨38, _⟩ => ⟨S_, .f32⟩
  | .hbm, ⟨39, _⟩ => ⟨S128, .f32⟩
  | .hbm, ⟨40, _⟩ => ⟨S128x1, .f32⟩
  | .hbm, ⟨41, _⟩ => ⟨S128x2, .f32⟩
  | .hbm, ⟨42, _⟩ => ⟨S128x2, .f32⟩
  | .hbm, ⟨43, _⟩ => ⟨S64x1024x128, .f32⟩
  | .hbm, ⟨44, _⟩ => ⟨S64x128x1024, .f32⟩
  | .hbm, ⟨45, _⟩ => ⟨S64x1x1024, .f32⟩
  | .hbm, ⟨46, _⟩ => ⟨S64x128x1024, .f32⟩
  | .hbm, ⟨47, _⟩ => ⟨S64x128x1024, .f32⟩
  | .hbm, ⟨48, _⟩ => ⟨S_, .f32⟩
  | .hbm, ⟨49, _⟩ => ⟨S64x128x1024, .f32⟩
  | .hbm, ⟨50, _⟩ => ⟨S64x128x1024, .f32⟩
  | .hbm, ⟨51, _⟩ => ⟨S64x128x1024, .f32⟩
  | .hbm, ⟨52, _⟩ => ⟨S64x1x1024, .f32⟩
  | .hbm, ⟨53, _⟩ => ⟨S64x128x1024, .f32⟩
  | .hbm, ⟨54, _⟩ => ⟨S64x128x1024, .f32⟩
  | .hbm, ⟨55, _⟩ => ⟨S128x64x1024, .f32⟩
  | .hbm, ⟨56, _⟩ => ⟨S128x2x1, .i32⟩
  | .hbm, ⟨57, _⟩ => ⟨S_, .i32⟩
  | .hbm, ⟨58, _⟩ => ⟨S128x2x1, .i32⟩
  | .hbm, ⟨59, _⟩ => ⟨S128x2x1, .i1⟩
  | .hbm, ⟨60, _⟩ => ⟨S_, .i32⟩
  | .hbm, ⟨61, _⟩ => ⟨S128x2x1, .i32⟩
  | .hbm, ⟨62, _⟩ => ⟨S128x2x1, .i32⟩
  | .hbm, ⟨63, _⟩ => ⟨S128x2x1, .i32⟩
  | .hbm, ⟨64, _⟩ => ⟨S1, .i32⟩
  | .hbm, ⟨65, _⟩ => ⟨S_, .i32⟩
  | .hbm, ⟨66, _⟩ => ⟨S128x2x1, .i32⟩
  | .hbm, ⟨67, _⟩ => ⟨S128x2x1, .i1⟩
  | .hbm, ⟨68, _⟩ => ⟨S1x1x1, .i32⟩
  | .hbm, ⟨69, _⟩ => ⟨S128x2x1, .i32⟩
  | .hbm, ⟨70, _⟩ => ⟨S128x2x1, .i1⟩
  | .hbm, ⟨71, _⟩ => ⟨S128x2x1, .i1⟩
  | .hbm, ⟨72, _⟩ => ⟨S_, .i1⟩
  | .hbm, ⟨73, _⟩ => ⟨S128x2, .i1⟩
  | .hbm, ⟨74, _⟩ => ⟨S128x2x1024, .f32⟩
  | .hbm, ⟨75, _⟩ => ⟨S128x2x1024, .i1⟩
  | .hbm, ⟨76, _⟩ => ⟨S_, .f32⟩
  | .hbm, ⟨77, _⟩ => ⟨S128x2x1024, .f32⟩
  | .hbm, ⟨78, _⟩ => ⟨S128x2x1024, .f32⟩
  | .hbm, ⟨79, _⟩ => ⟨S128x2x1, .f32⟩
  | .hbm, ⟨80, _⟩ => ⟨S128x2x1024, .f32⟩
  | .hbm, ⟨81, _⟩ => ⟨S128x2x1024, .f32⟩
  | .hbm, ⟨82, _⟩ => ⟨S_, .f32⟩
  | .hbm, ⟨83, _⟩ => ⟨S128x1024, .f32⟩
  | .hbm, ⟨84, _⟩ => ⟨S16x8x1024, .f32⟩
  | _, _ => ⟨S16x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_values : Ref sig .tc := ⟨.hbm, 27, rfl⟩
abbrev main_indices : Ref sig .tc := ⟨.hbm, 28, rfl⟩
abbrev main_cst_0 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_c : Ref sig .tc := ⟨.hbm, 57, rfl⟩
abbrev main_call0_v0 : Ref sig .tc := ⟨.hbm, 58, rfl⟩
abbrev main_call0_v1 : Ref sig .tc := ⟨.hbm, 59, rfl⟩
abbrev main_call0_c_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_c_1 : Ref sig .tc := ⟨.hbm, 64, rfl⟩
abbrev main_call0_c_2 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_v9 : Ref sig .tc := ⟨.hbm, 70, rfl⟩
abbrev main_call0_v10 : Ref sig .tc := ⟨.hbm, 71, rfl⟩
abbrev main_call0_c_3 : Ref sig .tc := ⟨.hbm, 72, rfl⟩
abbrev main_call0_v11 : Ref sig .tc := ⟨.hbm, 73, rfl⟩
abbrev main_call0_v12 : Ref sig .tc := ⟨.hbm, 74, rfl⟩
abbrev main_call0_v13 : Ref sig .tc := ⟨.hbm, 75, rfl⟩
abbrev main_call0_cst : Ref sig .tc := ⟨.hbm, 76, rfl⟩
abbrev main_call0_v14 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_4 : Ref sig .tc := ⟨.hbm, 82, rfl⟩
abbrev main_v43 : Ref sig .tc := ⟨.hbm, 83, rfl⟩
abbrev main_v44 : Ref sig .tc := ⟨.hbm, 84, rfl⟩

abbrev nD : Nat := 1
abbrev τ : Topo := Topo.v7x

variable {F : FTy → Type} [FloatOps F]
-- ==== Proof.Setup.lean ====
/-
  The launch as the proofs see it: the SparseCore configuration, the definitions below it, the resource
  algebra (the launch's handshakes, the two TensorCore pipelines' rounds, the local copies' counters),
  and names for the buffers of @main.
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Moe

open Cert.KernelIdeal Cert.KernelIdeal.Gen
open Idealize.ShloMosaic
open Idealize.ShloMosaic.SparseCore.Cfg (HIx)
open Idealize.SL Idealize.SL.RA Idealize.SL.BI Idealize.SL.Sem
open Idealize.ShloMosaic.Rounds

variable {F : FTy → Type} [FloatOps F] [Named F]

/-- The labels of the program without its SparseCore calls. -/
abbrev ΛP : Labels := Pipeline.Sig Λ₀ (Fin 2) fun p => (pcfgs (F := F) p).Adm
/-- The SparseCore configuration of @main. -/
abbrev K : SparseCore.Cfg τ sig (ΛP (F := F)) 1 := sc (F := F)
/-- The definitions below the SparseCore calls: the two pipelines over the kernels' bodies. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The launch's semaphores are not the kernels', and no SparseCore buffer is shared between tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's handshakes' rounds. -/
abbrev UH : Type := URounds (GSem nD τ sig) ℕ
/-- The TensorCore pipelines' rounds. -/
abbrev UP : Type := URounds (GSem nD τ sig) Unit
abbrev UU : Type := UH × (UP × Counters)

abbrev EH : Emb UH (MT nD τ sig (HIx 1) (Elt F) ℕ UU ℕ) := embL

end Cert.Proof.Moe

end
-- ==== Proof.RouterSpec.lean ====
/-
  What one tile of the router computes from the sixty-four rows of logits of its sixteen tokens: a first scan for the
  largest logit and its expert, a second scan, with that expert left out, for the next one, the two gates, and for each
  expert the row of weights.
-/
module

public import proofs.«01_k».proof.Proof.Setup

@[expose] public section

noncomputable section

namespace Cert.Proof.Moe

open Cert.KernelIdeal Cert.KernelIdeal.Gen
open Idealize.ShloMosaic

variable {F : FTy → Type} [FloatOps F] [Named F]

/-- Row `e` of a tile's sixty-four rows of sixteen. -/
abbrev rowRect (e : Fin 64) : Rect S64x16 := Rect.unit (s := S64x16) ![e.val, 0] S1x16.size (by
  intro a
  match a with
  | 0 => exact e.isLt
  | 1 => exact Nat.le_refl 16)

/-- The number `e` in all sixteen lanes. -/
abbrev expert (e : ℕ) : IVec S16 32 := broadcast S16 (BitVec.ofNat 32 e)

/-- The largest of the rows `0 … n`, lane by lane. -/
def firstV (R : ℕ → FVec F S16 .f32) : ℕ → FVec F S16 .f32
  | 0 => R 0
  | n + 1 => select (cmpf .ogt (R (n + 1)) (firstV R n)) (R (n + 1)) (firstV R n)

/-- The first expert that has it. -/
def firstI (R : ℕ → FVec F S16 .f32) : ℕ → IVec S16 32
  | 0 => expert 0
  | n + 1 => select (cmpf .ogt (R (n + 1)) (firstV R n)) (expert (n + 1)) (firstI R n)

/-- Row `n` with the lanes whose first expert is `n` at the lowest value. -/
def masked (R : ℕ → FVec F S16 .f32) (i : IVec S16 32) (n : ℕ) : FVec F S16 .f32 :=
  select (cmpi .eq i (expert n)) (broadcast S16 (Named.named κ "neg_big" 0xFF61B1E6#32)) (R n)

/-- The largest of the masked rows below `n`, started at the lowest value. -/
def secondV (R : ℕ → FVec F S16 .f32) (i : IVec S16 32) : ℕ → FVec F S16 .f32
  | 0 => broadcast S16 (Named.named κ "neg_big" 0xFF61B1E6#32)
  | n + 1 => select (cmpf .ogt (masked R i n) (secondV R i n)) (masked R i n) (secondV R i n)

/-- The first expert that has it, or expert zero. -/
def secondI (R : ℕ → FVec F S16 .f32) (i : IVec S16 32) : ℕ → IVec S16 32
  | 0 => expert 0
  | n + 1 => select (cmpf .ogt (masked R i n) (secondV R i n)) (expert n) (secondI R i n)

/-- The exponential of the second logit less the first. -/
def ratio (m1 m2 : FVec F S16 .f32) : FVec F S16 .f32 := exp (subf m2 m1)
/-- One plus that. -/
def total (m1 m2 : FVec F S16 .f32) : FVec F S16 .f32 := addf (broadcast S16 (Scalar.ofBits .f32 0x3F800000#32)) (ratio m1 m2)
/-- The first expert's gate. -/
def gate1 (m1 m2 : FVec F S16 .f32) : FVec F S16 .f32 := divf (broadcast S16 (Scalar.ofBits .f32 0x3F800000#32)) (total m1 m2)
/-- The second expert's gate. -/
def gate2 (m1 m2 : FVec F S16 .f32) : FVec F S16 .f32 := divf (ratio m1 m2) (total m1 m2)

/-- Expert `e`'s row of weights, from the two experts chosen and their gates. -/
def weigh (i1 i2 : IVec S16 32) (g1 g2 : FVec F S16 .f32) (e : ℕ) : FVec F S16 .f32 :=
  addf (select (cmpi .eq i1 (expert e)) g1 (broadcast S16 (Scalar.ofBits .f32 0x00000000#32)))
    (select (cmpi .eq i2 (expert e)) g2 (broadcast S16 (Scalar.ofBits .f32 0x00000000#32)))

/-- Expert `e`'s row of weights of a tile whose logits are `R`. -/
def wrow (R : ℕ → FVec F S16 .f32) (e : ℕ) : FVec F S16 .f32 :=
  weigh (firstI R 63) (secondI R (firstI R 63) 64) (gate1 (firstV R 63) (secondV R (firstI R 63) 64))
    (gate2 (firstV R 63) (secondV R (firstI R 63) 64)) e

/-! ## The scans, one step at a time -/

theorem firstV_one (R : ℕ → FVec F S16 .f32) : select (cmpf .ogt (R 1) (R 0)) (R 1) (R 0) = firstV R 1 := rfl
theorem firstI_one (R : ℕ → FVec F S16 .f32) :
    select (cmpf .ogt (R 1) (R 0)) (broadcast S16 (BitVec.ofNat 32 1)) (broadcast S16 (BitVec.ofNat 32 0)) = firstI R 1 := rfl
theorem firstV_step (R : ℕ → FVec F S16 .f32) (k n : ℕ) (h : k = n + 1) :
    select (cmpf .ogt (R k) (firstV R n)) (R k) (firstV R n) = firstV R k := by subst h; rfl
theorem firstI_step (R : ℕ → FVec F S16 .f32) (k n : ℕ) (h : k = n + 1) :
    select (cmpf .ogt (R k) (firstV R n)) (broadcast S16 (BitVec.ofNat 32 k)) (firstI R n) = firstI R k := by subst h; rfl
theorem masked_eq (R : ℕ → FVec F S16 .f32) (i : IVec S16 32) (n : ℕ) :
    select (cmpi .eq i (broadcast S16 (BitVec.ofNat 32 n))) (broadcast S16 (Named.named κ "neg_big" 0xFF61B1E6#32)) (R n) = masked R i n := rfl
theorem secondV_one (R : ℕ → FVec F S16 .f32) (i : IVec S16 32) :
    select (cmpf .ogt (masked R i 0) (broadcast S16 (Named.named κ "neg_big" 0xFF61B1E6#32))) (masked R i 0)
      (broadcast S16 (Named.named κ "neg_big" 0xFF61B1E6#32)) = secondV R i 1 := rfl
theorem secondI_one (R : ℕ → FVec F S16 .f32) (i : IVec S16 32) :
    select (cmpf .ogt (masked R i 0) (broadcast S16 (Named.named κ "neg_big" 0xFF61B1E6#32))) (broadcast S16 (BitVec.ofNat 32 0))
      (broadcast S16 (BitVec.ofNat 32 0)) = secondI R i 1 := rfl
theorem secondV_step (R : ℕ → FVec F S16 .f32) (i : IVec S16 32) (n : ℕ) :
    select (cmpf .ogt (masked R i n) (secondV R i n)) (masked R i n) (secondV R i n) = secondV R i (n + 1) := rfl
theorem secondI_step (R : ℕ → FVec F S16 .f32) (i : IVec S16 32) (n : ℕ) :
    select (cmpf .ogt (masked R i n) (secondV R i n)) (broadcast S16 (BitVec.ofNat 32 n)) (secondI R i n) = secondI R i (n + 1) := rfl

theorem gate1_eq (m1 m2 : FVec F S16 .f32) :
    divf (broadcast S16 (FloatOps.ofBits FTy.f32 0x3F800000#32))
      (addf (broadcast S16 (FloatOps.ofBits FTy.f32 0x3F800000#32)) (exp (subf m2 m1))) = gate1 m1 m2 := rfl
theorem gate2_eq (m1 m2 : FVec F S16 .f32) :
    divf (exp (subf m2 m1)) (addf (broadcast S16 (FloatOps.ofBits FTy.f32 0x3F800000#32)) (exp (subf m2 m1))) = gate2 m1 m2 := rfl
theorem weigh_eq (i1 i2 : IVec S16 32) (g1 g2 : FVec F S16 .f32) (e : ℕ) :
    addf (select (cmpi .eq i1 (broadcast S16 (BitVec.ofNat 32 e))) g1 (broadcast S16 (FloatOps.ofBits FTy.f32 0x00000000#32)))
      (select (cmpi .eq i2 (broadcast S16 (BitVec.ofNat 32 e))) g2 (broadcast S16 (FloatOps.ofBits FTy.f32 0x00000000#32)))
      = weigh i1 i2 g1 g2 e := rfl

end Cert.Proof.Moe

end
-- ==== Proof.RouterVals.lean ====
/-
  The rows that a tile of the SparseCore call reads and writes.
-/
module

public import proofs.«01_k».proof.Proof.RouterSpec
public import Idealize.ShloMosaic.Lib.ValueLayout

@[expose] public section

noncomputable section

namespace Cert.Proof.Moe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

abbrev cV (L : grid1.Coords) : Fin τ.nSC := (L 0).castLE hcore1
abbrev jV (L : grid1.Coords) : Fin τ.nSub := (L 1).castLE hsub1

variable (d : Dev nD) (L : grid1.Coords)
abbrev rowK (L : grid1.Coords) (h : k1_cond1 L = 1#1) : Rect S8x64x16 := Rect.unit (s := S8x64x16) (k1_off1 L) S1x64x16.size (k1_off1_inb L h)
abbrev lgRowK (L : grid1.Coords) (h : k1_cond1 L = 1#1) : Memref sig .scVector .hbm S64x16 .f32 := ((Memref.whole Cert.KernelIdeal.main_v4_1_scv : Memref Cert.KernelIdeal.sig Kind.scVector Space.hbm Cert.KernelIdeal.S8x64x16 EltTy.f32).slice (rowK L h) (fun _ => rfl)).squeeze S64x16 squeezes_S1x64x16_S64x16
abbrev woRowK (L : grid1.Coords) (h : k1_cond1 L = 1#1) : Memref sig .scVector .hbm S64x16 .f32 := ((Memref.whole Cert.KernelIdeal.main_v5_scv : Memref Cert.KernelIdeal.sig Kind.scVector Space.hbm Cert.KernelIdeal.S8x64x16 EltTy.f32).slice (rowK L h) (fun _ => rfl)).squeeze S64x16 squeezes_S1x64x16_S64x16

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

abbrev lgLoc (d : Dev nD) : Loc nD τ sig := (SparseCore.T d).loc main_v4_1
abbrev woLoc (d : Dev nD) : Loc nD τ sig := (SparseCore.T d).loc main_v5

/-- The elements of the row a tile works on; no element for a tile past the eighth. -/
def rowSet (c i : ℕ) : Finset S8x64x16.Idx := Finset.univ.filter fun x => (x 0).val = 2 * i + c

omit [FloatOps F] [Named F] in
theorem off1_zero (L : grid1.Coords) : k1_off1 L 0 = 2 * (L 1).val + (L 0).val := by rw [k1_off1_eq]; rfl

omit [FloatOps F] [Named F] in
theorem set_rowK (L : grid1.Coords) (h : k1_cond1 L = 1#1) : (rowK L h).set = rowSet (L 0).val (L 1).val := by
  ext x
  unfold rowSet rowK
  rw [Rect.mem_set_unit, Finset.mem_filter]
  refine ⟨fun hx => ⟨Finset.mem_univ _, ?_⟩, fun hx a => ?_⟩
  · have h0 := hx 0
    rw [off1_zero] at h0
    have e : S1x64x16.size 0 = 1 := rfl
    omega
  · have h0 := hx.2
    have e : S1x64x16.size 0 = 1 := rfl
    rw [k1_off1_eq]
    match a with
    | 0 => exact ⟨by show 2 * (L 1).val + (L 0).val ≤ _; omega, by show _ < 2 * (L 1).val + (L 0).val + 1; omega⟩
    | 1 => exact ⟨Nat.zero_le _, by show (x 1).val < 0 + 64; have := (x 1).isLt; have e : S8x64x16.size 1 = 64 := rfl; omega⟩
    | 2 => exact ⟨Nat.zero_le _, by show (x 2).val < 0 + 16; have := (x 2).isLt; have e : S8x64x16.size 2 = 16 := rfl; omega⟩

omit [FloatOps F] [Named F] in
theorem set_lgRowK (L : grid1.Coords) (h : k1_cond1 L = 1#1) : (lgRowK L h).view.set = rowSet (L 0).val (L 1).val := by
  show (((Memref.whole Cert.KernelIdeal.main_v4_1_scv : Memref Cert.KernelIdeal.sig Kind.scVector Space.hbm Cert.KernelIdeal.S8x64x16 EltTy.f32).view.slice (rowK L h)).reshape S64x16 squeezes_S1x64x16_S64x16.numel_eq).set = _
  rw [View.set_reshape]
  exact (View.set_slice_whole _ _).trans (set_rowK L h)

omit [FloatOps F] [Named F] in
theorem set_woRowK (L : grid1.Coords) (h : k1_cond1 L = 1#1) : (woRowK L h).view.set = rowSet (L 0).val (L 1).val := by
  show (((Memref.whole Cert.KernelIdeal.main_v5_scv : Memref Cert.KernelIdeal.sig Kind.scVector Space.hbm Cert.KernelIdeal.S8x64x16 EltTy.f32).view.slice (rowK L h)).reshape S64x16 squeezes_S1x64x16_S64x16.numel_eq).set = _
  rw [View.set_reshape]
  exact (View.set_slice_whole _ _).trans (set_rowK L h)

omit [FloatOps F] [Named F] in
theorem pts_lgRowK (h : k1_cond1 L = 1#1) (f : Buf (Elt F) (lgLoc d)) :
    ((lgRowK L h).view.loc (V d (cV L) (jV L)) ↦[(lgRowK L h).view.set]{fullShare} f : sProp 𝕄) = lgLoc d ↦[rowSet (L 0).val (L 1).val]{fullShare} f := by
  rw [set_lgRowK]
omit [FloatOps F] [Named F] in
theorem pts_woRowK (h : k1_cond1 L = 1#1) (f : Buf (Elt F) (woLoc d)) :
    ((woRowK L h).view.loc (V d (cV L) (jV L)) ↦[(woRowK L h).view.set]{fullShare} f : sProp 𝕄) = woLoc d ↦[rowSet (L 0).val (L 1).val]{fullShare} f := by
  rw [set_woRowK]
omit [FloatOps F] [Named F] in
theorem pts_inV (f : Buf (Elt F) ((V d (cV L) (jV L)).loc cc1_scratch0)) :
    ((Memref.whole Cert.KernelIdeal.cc1_scratch0 : Memref Cert.KernelIdeal.sig Kind.scVector Space.vmem Cert.KernelIdeal.S64x16 EltTy.f32).view.loc (V d (cV L) (jV L)) ↦{fullShare} f : sProp 𝕄) = (V d (cV L) (jV L)).loc cc1_scratch0 ↦{fullShare} f := rfl
omit [FloatOps F] [Named F] in
theorem pts_wV (f : Buf (Elt F) ((V d (cV L) (jV L)).loc cc1_scratch1)) :
    ((Memref.whole Cert.KernelIdeal.cc1_scratch1 : Memref Cert.KernelIdeal.sig Kind.scVector Space.vmem Cert.KernelIdeal.S64x16 EltTy.f32).view.loc (V d (cV L) (jV L)) ↦{fullShare} f : sProp 𝕄) = (V d (cV L) (jV L)).loc cc1_scratch1 ↦{fullShare} f := rfl

/-- The rows that a tile loads from its scratch when that holds `X`. -/
def rowsOf (X : S64x16.Idx → Elt F .f32) (n : ℕ) : FVec F S16 .f32 :=
  shapeCast S16 (View.readAt (Elt F) (View.whole cc1_scratch0) (rowRect (Fin.ofNat 64 n)).toLoadRect X) shapeCasts_S1x16_S16

theorem rowsOf_eq (X : S64x16.Idx → Elt F .f32) (n : ℕ) (hb : ∀ a, (![n, 0] : Fin 2 → ℕ) a + (![1, 16] : Fin 2 → ℕ) a ≤ S64x16.size a) :
    @shapeCast S1x16 (F .f32) S16
      (View.readAt (Elt F) (View.whole cc1_scratch0) (Rect.unit (s := S64x16) ![n, 0] ![1, 16] hb).toLoadRect X) shapeCasts_S1x16_S16
      = rowsOf X n := by
  have h : n < 64 := hb 0
  have e : (⟨n, h⟩ : Fin 64) = Fin.ofNat 64 n := Fin.ext (Nat.mod_eq_of_lt h).symm
  unfold rowsOf
  rw [← e]

omit [FloatOps F] [Named F] in
/-- Where a tile's row sits in the whole array. -/
theorem emb_rowK (L : grid1.Coords) (h : k1_cond1 L = 1#1) (n : Fin 64) (l : Fin 16) :
    ∃ a : Fin 8, a.val = 2 * (L 1).val + (L 0).val ∧ (lgRowK L h).view.emb (ix2 n l) = ix3 a n l ∧ (woRowK L h).view.emb (ix2 n l) = ix3 a n l := by
  have h0 := k1_off1_inb L h 0
  rw [off1_zero] at h0
  have e1 : S1x64x16.size 0 = 1 := rfl
  have e8 : S8x64x16.size 0 = 8 := rfl
  have key : (rowK L h).emb (Shape.reshapeEquiv squeezes_S1x64x16_S64x16.numel_eq (ix2 n l)) = ix3 (⟨2 * (L 1).val + (L 0).val, by omega⟩ : Fin 8) n l := by
    rw [reshapeEquiv_ix2_1ab]
    funext a
    apply Fin.ext
    show k1_off1 L a + 1 * _ = _
    rw [k1_off1_eq]
    match a with
    | 0 => rfl
    | 1 => show 0 + 1 * n.val = n.val; omega
    | 2 => show 0 + 1 * l.val = l.val; omega
  exact ⟨_, rfl, key, key⟩

/-- The weights that the router computes from all the logits: position `x` holds the weight of expert `x 1` for token
    `x 2` of group `x 0`. -/
def routed (lg : S8x64x16.Idx → F .f32) : S8x64x16.Idx → F .f32 := fun x =>
  wrow (fun n (l : S16.Idx) => lg (ix3 (x 0 : Fin 8) (Fin.ofNat 64 n) (l 0 : Fin 16))) (x 1).val (ix1 (x 2 : Fin 16))

theorem rowsOf_apply (X : S64x16.Idx → Elt F .f32) (n : ℕ) (l : S16.Idx) : rowsOf X n l = X (ix2 (Fin.ofNat 64 n) (l 0 : Fin 16)) := by
  rw [show l = ix1 (l 0 : Fin 16) from eq_ix1 l]
  unfold rowsOf
  refine (shapeCast_1a_a_apply _ _ _).trans ?_
  show X ((rowRect (Fin.ofNat 64 n)).emb (ix2 (0 : Fin 1) (l 0 : Fin 16))) = _
  congr 1
  funext a
  apply Fin.ext
  match a with
  | 0 => show (Fin.ofNat 64 n).val + 1 * 0 = (Fin.ofNat 64 n).val; omega
  | 1 => show 0 + 1 * (l 0).val = (l 0).val; omega

omit [FloatOps F] [Named F] in
/-- A whole write is read back. -/
theorem read_writes_whole {κ : Kind} {sp : Space} {s : Shape} {e : EltTy} (v : View sig κ sp s e) (f : v.ty.Contents (Elt F))
    (w : s.Idx → Elt F e) (y : s.Idx) : v.read (Elt F) (v.writes (Elt F) f [⟨Rect.whole s, w⟩]) y = w y := by
  refine View.read_writes_apply_of_pieces v f w _ (fun p hp z => ?_) y ⟨_, List.mem_singleton_self _, ?_⟩
  · obtain rfl := List.mem_singleton.mp hp
    exact congrArg w (Rect.emb_whole_apply s z).symm
  · show y ∈ (Rect.whole s).set
    rw [Rect.set_whole]; exact Finset.mem_univ y

/-- What a tile writes, at its own row, is the router's weights of the whole array. -/
theorem written_at (L : grid1.Coords) (h : k1_cond1 L = 1#1) (fin : S8x64x16.Idx → F .f32) (fo : S8x64x16.Idx → F .f32)
    (fw : S64x16.Idx → Elt F .f32) (ps : List (View.Piece (Elt F) S64x16 .f32))
    (hps : ps = List.ofFn fun e : Fin 64 => (⟨rowRect e.rev,
      (shapeCast S1x16 (wrow (rowsOf (View.read (Elt F) (lgRowK L h).view fin)) e.rev.val)
        shapeCasts_S16_S1x16 : FVec F S1x16 .f32)⟩ : View.Piece (Elt F) S64x16 .f32))
    (a : Fin 8) (b : Fin 64) (c : Fin 16) (ha : a.val = 2 * (L 1).val + (L 0).val) :
    (woRowK L h).view.writes (Elt F) fo [⟨Rect.whole S64x16, View.read (Elt F) (Memref.whole Cert.KernelIdeal.cc1_scratch1 : Memref Cert.KernelIdeal.sig Kind.scVector Space.vmem Cert.KernelIdeal.S64x16 EltTy.f32).view ((Memref.whole Cert.KernelIdeal.cc1_scratch1 : Memref Cert.KernelIdeal.sig Kind.scVector Space.vmem Cert.KernelIdeal.S64x16 EltTy.f32).view.writes (Elt F) fw ps)⟩] (ix3 a b c)
      = routed fin (ix3 a b c) := by
  obtain ⟨a₁, ha₁, hel, hew⟩ := emb_rowK L h b c
  obtain rfl : a₁ = a := Fin.ext (ha₁.trans ha.symm)
  have hread : View.read (Elt F) (lgRowK L h).view fin = fun y => fin (ix3 a₁ (y 0 : Fin 64) (y 1 : Fin 16)) := by
    funext y
    obtain ⟨a', ha', hel', -⟩ := emb_rowK L h (y 0) (y 1)
    obtain rfl : a' = a₁ := Fin.ext (ha'.trans ha.symm)
    show fin ((lgRowK L h).view.emb y) = _
    exact congrArg fin ((congrArg (lgRowK L h).view.emb (eq_ix2 y)).trans hel')
  have hR : ∀ n, rowsOf (View.read (Elt F) (lgRowK L h).view fin) n = fun (l : S16.Idx) => fin (ix3 a₁ (Fin.ofNat 64 n) (l 0 : Fin 16)) := by
    intro n; funext l; rw [rowsOf_apply, hread]
  have hG := View.read_writes_apply_of_pieces (v := (Memref.whole Cert.KernelIdeal.cc1_scratch1 : Memref Cert.KernelIdeal.sig Kind.scVector Space.vmem Cert.KernelIdeal.S64x16 EltTy.f32).view) (f := fw)
    (fun y : S64x16.Idx => (wrow (fun n (l : S16.Idx) => fin (ix3 a₁ (Fin.ofNat 64 n) (l 0 : Fin 16))) (y 0).val (ix1 (y 1 : Fin 16)) : Elt F .f32))
    ps (by
      intro p hp z
      rw [hps, List.mem_ofFn] at hp
      obtain ⟨e, rfl⟩ := hp
      have hz : z = ix2 (0 : Fin 1) (z 1 : Fin 16) := by
        rw [show (0 : Fin 1) = (z 0 : Fin 1) from Subsingleton.elim _ _]; exact eq_ix2 z
      have he : (rowRect e.rev).emb z = ix2 (e.rev : Fin 64) (z 1 : Fin 16) := by
        rw [hz]
        funext b
        apply Fin.ext
        match b with
        | 0 => show e.rev.val + 1 * 0 = e.rev.val; omega
        | 1 => show 0 + 1 * (z 1).val = (z 1).val; omega
      rw [he]
      show shapeCast S1x16 (wrow (rowsOf (View.read (Elt F) (lgRowK L h).view fin)) e.rev.val) shapeCasts_S16_S1x16 z = _
      rw [hz, show rowsOf (View.read (Elt F) (lgRowK L h).view fin) = _ from funext hR]
      exact shapeCast_a_1a_apply _ _ _ _) (ix2 b c) (by
      refine ⟨_, hps ▸ (List.mem_ofFn.mpr ⟨b.rev, rfl⟩), ?_⟩
      show ix2 b c ∈ (rowRect b.rev.rev).set
      rw [Fin.rev_rev, Rect.mem_set_unit]
      intro q
      match q with
      | 0 => exact ⟨Nat.le_refl _, Nat.lt_succ_self _⟩
      | 1 => exact ⟨Nat.zero_le _, by show c.val < 0 + 16; have := c.isLt; omega⟩)
  have hw : View.read (Elt F) (woRowK L h).view ((woRowK L h).view.writes (Elt F) fo
      [⟨Rect.whole S64x16, View.read (Elt F) (Memref.whole Cert.KernelIdeal.cc1_scratch1 : Memref Cert.KernelIdeal.sig Kind.scVector Space.vmem Cert.KernelIdeal.S64x16 EltTy.f32).view ((Memref.whole Cert.KernelIdeal.cc1_scratch1 : Memref Cert.KernelIdeal.sig Kind.scVector Space.vmem Cert.KernelIdeal.S64x16 EltTy.f32).view.writes (Elt F) fw ps)⟩]) (ix2 b c)
      = View.read (Elt F) (Memref.whole Cert.KernelIdeal.cc1_scratch1 : Memref Cert.KernelIdeal.sig Kind.scVector Space.vmem Cert.KernelIdeal.S64x16 EltTy.f32).view ((Memref.whole Cert.KernelIdeal.cc1_scratch1 : Memref Cert.KernelIdeal.sig Kind.scVector Space.vmem Cert.KernelIdeal.S64x16 EltTy.f32).view.writes (Elt F) fw ps) (ix2 b c) :=
    read_writes_whole _ _ _ _
  have hr : routed fin (ix3 a₁ b c) = wrow (fun n (l : S16.Idx) => fin (ix3 a₁ (Fin.ofNat 64 n) (l 0 : Fin 16))) b.val (ix1 c) := by
    unfold routed; rfl
  rw [hr]
  refine Eq.trans ?_ hG
  refine Eq.trans ?_ hw
  rw [View.read_apply, hew]
  rfl

/-- The same at every element of the row. -/
theorem written_eq (L : grid1.Coords) (h : k1_cond1 L = 1#1) (fin : S8x64x16.Idx → F .f32) (fo : S8x64x16.Idx → F .f32)
    (fw : S64x16.Idx → Elt F .f32) (ps : List (View.Piece (Elt F) S64x16 .f32))
    (hps : ps = List.ofFn fun e : Fin 64 => (⟨rowRect e.rev,
      (shapeCast S1x16 (wrow (rowsOf (View.read (Elt F) (lgRowK L h).view fin)) e.rev.val)
        shapeCasts_S16_S1x16 : FVec F S1x16 .f32)⟩ : View.Piece (Elt F) S64x16 .f32))
    (x : S8x64x16.Idx) (hx : x ∈ rowSet (L 0).val (L 1).val) :
    (woRowK L h).view.writes (Elt F) fo [⟨Rect.whole S64x16, View.read (Elt F) (Memref.whole Cert.KernelIdeal.cc1_scratch1 : Memref Cert.KernelIdeal.sig Kind.scVector Space.vmem Cert.KernelIdeal.S64x16 EltTy.f32).view ((Memref.whole Cert.KernelIdeal.cc1_scratch1 : Memref Cert.KernelIdeal.sig Kind.scVector Space.vmem Cert.KernelIdeal.S64x16 EltTy.f32).view.writes (Elt F) fw ps)⟩] x
      = routed fin x := by
  have hx0 : (x 0).val = 2 * (L 1).val + (L 0).val := (Finset.mem_filter.mp hx).2
  rw [show x = ix3 (x 0 : Fin 8) (x 1 : Fin 64) (x 2 : Fin 16) from eq_ix3 x]
  exact written_at L h fin fo fw ps hps _ _ _ hx0

end Cert.Proof.Moe

end
-- ==== Proof.FfnRun.lean ====
/-
  The body of the first TensorCore call, run at each of its two grid points.
-/
module

public import proofs.«01_k».proof.Proof.RouterVals
public import Idealize.ShloMosaic.Lib.VecWindow
public import Idealize.ShloMosaic.Lib.Ring

@[expose] public section

set_option maxRecDepth 16384

noncomputable section

namespace Cert.Proof.Moe

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

/-- The body's three conditions on the grid coordinate. -/
abbrev ffnFirst (i : grid0.Coords) : Prop := (Scalar.cmpi .ne (Scalar.extui (Scalar.cmpi .eq (BitVec.ofNat 32 (i 0).val) 0#32) : BitVec 32) 0#32) = 1#1
abbrev ffnLater (i : grid0.Coords) : Prop := (Scalar.cmpi .ne (Scalar.extui (Scalar.cmpi .sgt (BitVec.ofNat 32 (i 0).val) 0#32) : BitVec 32) 0#32) = 1#1

set_option maxHeartbeats 1000000 in
/-- At the first point the partial product goes to the scratch. -/
theorem ffn_first (c : Dev nD) (i : grid0.Coords) (arg1 : Memref sig .tc .vmem S128x1024 .f32) (harg1 : arg1.IsWhole) (arg2 : Memref sig .tc .vmem S1024x2048 .f32) (harg2 : arg2.IsWhole) (arg3 : Memref sig .tc .vmem S1x1x2048 .f32) (harg3 : arg3.IsWhole) (arg4 : Memref sig .tc .vmem S2048x1024 .f32) (harg4 : arg4.IsWhole) (arg5 : Memref sig .tc .vmem S1x1024 .f32) (harg5 : arg5.IsWhole) (arg6 : Memref sig .tc .vmem S1024x64 .f32) (harg6 : arg6.IsWhole) (arg7 : Memref sig .tc .vmem S64x1 .f32) (harg7 : arg7.IsWhole) (arg8 : Memref sig .tc .vmem S128x1024 .f32) (harg8 : arg8.IsWhole) (arg9 : Memref sig .tc .vmem S8x64x16 .f32) (harg9 : arg9.IsWhole) (arg10 : Memref sig .tc .vmem S128x1024 .f32) (harg10 : arg10.IsWhole)
    (hc0 : ffnFirst i) (hc1 : ¬ffnLater i) (hc2 : ¬k0_cond3 i = 1#1)
    (x0 : Vec F S128x1024 .f32) (x1 : Vec F S1024x2048 .f32) (x2 : Vec F S1x1x2048 .f32) (x3 : Vec F S2048x1024 .f32) (E : Set ℕ) (R : sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg10 fullShare d) ∗ R)
      ⊢ wp frame (wpE (defs₀ (F := F)) Variants.none c none) E (cc0__ffn_body i arg1 harg1 arg2 harg2 arg3 harg3 arg4 harg4 arg5 harg5 arg6 harg6 arg7 harg7 arg8 harg8 arg9 harg9 arg10 harg10)
        fun _ => iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare (k0_pay2 x0 x1 x2 x3) ∗ R) := by
  simp only [cc0__ffn_body_eq_skeleton]; unfold cc0__ffn_body_skel
  unfold owns
  iintro ⟨⟨%f0, %hf0, H0⟩, ⟨%f1, %hf1, H1⟩, ⟨%f2, %hf2, H2⟩, ⟨%f3, %hf3, H3⟩, ⟨%ds0, %fs0, -, HS0⟩, HR⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    rw [View.read_writes_full]
    repeat rw [View.readAt_full]
    rw [hf0, hf1, hf2, hf3]
  iexact HR

/-- The token at place `b` of row `a`. -/
def tokAt (a : Fin 8) (b : Fin 16) : Fin 128 := ⟨16 * a.val + b.val, by omega⟩

/-- The logits of the 128 tokens, 16 tokens to a row, from the matrix of experts by tokens. -/
def slabs (T : FVec F S64x128 .f32) : Vec F S8x64x16 .f32 := fun x =>
  T (ix2 (x 1 : Fin 64) (tokAt (x 0) (x 2)))

omit [FloatOps F] [Named F] in
/-- A row of them, as the body stores it. -/
theorem slab_piece (T : FVec F S64x128 .f32) (j o : ℕ) (hj : j < 8) (ho : o = 16 * j) (hs : S64x128.Slices ![0, o] S64x16)
    (inb : ∀ a, (![j, 0, 0] : Fin 3 → ℕ) a + S1x64x16.size a ≤ S8x64x16.size a) (z : S1x64x16.Idx) :
    shapeCast S1x64x16 (extractStridedSlice S64x16 ![0, o] T hs) shapeCasts_S64x16_S1x64x16 z
      = slabs T ((Rect.unit (s := S8x64x16) ![j, 0, 0] S1x64x16.size inb).emb z) := by
  obtain ⟨a, b, e, rfl⟩ : ∃ (a : Fin 1) (b : Fin 64) (e : Fin 16), z = ix3 a b e := ⟨z 0, z 1, z 2, eq_ix3 z⟩
  have h0 : a.val = 0 := by omega
  have he := e.isLt
  have key : (Rect.unit (s := S8x64x16) ![j, 0, 0] S1x64x16.size inb).emb (ix3 a b e) = ix3 (⟨j, hj⟩ : Fin 8) b e := by
    funext x
    apply Fin.ext
    match x with
    | 0 => show j + 1 * a.val = j; omega
    | 1 => show 0 + 1 * b.val = b.val; omega
    | 2 => show 0 + 1 * e.val = e.val; omega
  have kt : extractStridedSlice S64x16 ![0, o] T hs (ix2 b e) = T (ix2 b (⟨16 * j + e.val, by omega⟩ : Fin 128)) := by
    unfold extractStridedSlice
    congr 1
    funext x
    apply Fin.ext
    match x with
    | 0 => show 0 + b.val = b.val; omega
    | 1 => show o + e.val = 16 * j + e.val; omega
  rw [key]
  exact (shapeCast_ab_1ab_apply (extractStridedSlice S64x16 ![0, o] T hs) shapeCasts_S64x16_S1x64x16 a b e).trans kt

/-- The eight rows stored, read back: the logits. -/
theorem slabs_written (v : View sig Kind.tc Space.vmem S8x64x16 .f32) (f : v.ty.Contents (Elt F))
    (v21 : Vec F S128x1024 .f32) (x4 : Vec F S1x1024 .f32) (x5 : Vec F S1024x64 .f32) (x6 : Vec F S64x1 .f32) (y : S8x64x16.Idx) :
    v.read (Elt F) (v.writes (Elt F) f
      [⟨Rect.unit (s := S8x64x16) ![7, 0, 0] S1x64x16.size inb_S8x64x16_S1x64x16_7_0_0, k0_pay7 (k0_pay9 v21 x4 x5 x6)⟩,
       ⟨Rect.unit (s := S8x64x16) ![6, 0, 0] S1x64x16.size inb_S8x64x16_S1x64x16_6_0_0, k0_pay6 (k0_pay9 v21 x4 x5 x6)⟩,
       ⟨Rect.unit (s := S8x64x16) ![5, 0, 0] S1x64x16.size inb_S8x64x16_S1x64x16_5_0_0, k0_pay5 (k0_pay9 v21 x4 x5 x6)⟩,
       ⟨Rect.unit (s := S8x64x16) ![4, 0, 0] S1x64x16.size inb_S8x64x16_S1x64x16_4_0_0, k0_pay4 (k0_pay14 v21 x4 x5 x6)⟩,
       ⟨Rect.unit (s := S8x64x16) ![3, 0, 0] S1x64x16.size inb_S8x64x16_S1x64x16_3_0_0, k0_pay13 v21 x4 x5 x6⟩,
       ⟨Rect.unit (s := S8x64x16) ![2, 0, 0] S1x64x16.size inb_S8x64x16_S1x64x16_2_0_0, k0_pay12 v21 x4 x5 x6⟩,
       ⟨Rect.unit (s := S8x64x16) ![1, 0, 0] S1x64x16.size inb_S8x64x16_S1x64x16_1_0_0, k0_pay11 v21 x4 x5 x6⟩,
       ⟨Rect.unit (s := S8x64x16) ![0, 0, 0] S1x64x16.size inb_S8x64x16_S1x64x16_0_0_0, k0_pay10 v21 x4 x5 x6⟩]) y
      = slabs (k0_pay9 v21 x4 x5 x6) y := by
  refine View.read_writes_apply_of_pieces v f (slabs (k0_pay9 v21 x4 x5 x6)) _ ?_ y (View.cover_of_tiledL (s := S8x64x16) _ S1x64x16.size (by sl_kernel_rfl) y)
  intro p hp
  simp only [List.mem_cons, List.not_mem_nil, _root_.or_false] at hp
  rcases hp with rfl | rfl | rfl | rfl | rfl | rfl | rfl | rfl
  · exact fun z => slab_piece (k0_pay9 v21 x4 x5 x6) 7 112 (by omega) rfl slices_S64x128_o0_112_S64x16 inb_S8x64x16_S1x64x16_7_0_0 z
  · exact fun z => slab_piece (k0_pay9 v21 x4 x5 x6) 6 96 (by omega) rfl slices_S64x128_o0_96_S64x16 inb_S8x64x16_S1x64x16_6_0_0 z
  · exact fun z => slab_piece (k0_pay9 v21 x4 x5 x6) 5 80 (by omega) rfl slices_S64x128_o0_80_S64x16 inb_S8x64x16_S1x64x16_5_0_0 z
  · exact fun z => slab_piece (k0_pay9 v21 x4 x5 x6) 4 64 (by omega) rfl slices_S64x128_o0_64_S64x16 inb_S8x64x16_S1x64x16_4_0_0 z
  · exact fun z => slab_piece (k0_pay9 v21 x4 x5 x6) 3 48 (by omega) rfl slices_S64x128_o0_48_S64x16 inb_S8x64x16_S1x64x16_3_0_0 z
  · exact fun z => slab_piece (k0_pay9 v21 x4 x5 x6) 2 32 (by omega) rfl slices_S64x128_o0_32_S64x16 inb_S8x64x16_S1x64x16_2_0_0 z
  · exact fun z => slab_piece (k0_pay9 v21 x4 x5 x6) 1 16 (by omega) rfl slices_S64x128_o0_16_S64x16 inb_S8x64x16_S1x64x16_1_0_0 z
  · exact fun z => slab_piece (k0_pay9 v21 x4 x5 x6) 0 0 (by omega) rfl slices_S64x128_o0_0_S64x16 inb_S8x64x16_S1x64x16_0_0_0 z

set_option maxHeartbeats 4000000 in
/-- At the last point the tokens and the logits are written out. -/
theorem ffn_last (c : Dev nD) (i : grid0.Coords) (arg1 : Memref sig .tc .vmem S128x1024 .f32) (harg1 : arg1.IsWhole) (arg2 : Memref sig .tc .vmem S1024x2048 .f32) (harg2 : arg2.IsWhole) (arg3 : Memref sig .tc .vmem S1x1x2048 .f32) (harg3 : arg3.IsWhole) (arg4 : Memref sig .tc .vmem S2048x1024 .f32) (harg4 : arg4.IsWhole) (arg5 : Memref sig .tc .vmem S1x1024 .f32) (harg5 : arg5.IsWhole) (arg6 : Memref sig .tc .vmem S1024x64 .f32) (harg6 : arg6.IsWhole) (arg7 : Memref sig .tc .vmem S64x1 .f32) (harg7 : arg7.IsWhole) (arg8 : Memref sig .tc .vmem S128x1024 .f32) (harg8 : arg8.IsWhole) (arg9 : Memref sig .tc .vmem S8x64x16 .f32) (harg9 : arg9.IsWhole) (arg10 : Memref sig .tc .vmem S128x1024 .f32) (harg10 : arg10.IsWhole)
    (hc0 : ¬ffnFirst i) (hc1 : ffnLater i) (hc2 : k0_cond3 i = 1#1)
    (x0 : Vec F S128x1024 .f32) (x1 : Vec F S1024x2048 .f32) (x2 : Vec F S1x1x2048 .f32) (x3 : Vec F S2048x1024 .f32) (x4 : Vec F S1x1024 .f32) (x5 : Vec F S1024x64 .f32) (x6 : Vec F S64x1 .f32) (xs : Vec F S128x1024 .f32) (E : Set ℕ) (R : sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ owns (c : Thread nD τ) arg10 fullShare xs ∗ R)
      ⊢ wp frame (wpE (defs₀ (F := F)) Variants.none c none) E (cc0__ffn_body i arg1 harg1 arg2 harg2 arg3 harg3 arg4 harg4 arg5 harg5 arg6 harg6 arg7 harg7 arg8 harg8 arg9 harg9 arg10 harg10)
        fun _ => iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare x4 ∗ owns (c : Thread nD τ) arg6 fullShare x5 ∗ owns (c : Thread nD τ) arg7 fullShare x6
          ∗ owns (c : Thread nD τ) arg8 fullShare (k0_pay8 (k0_pay3 x0 x1 x2 x3 xs) x4) ∗ owns (c : Thread nD τ) arg9 fullShare (slabs (k0_pay9 (k0_pay3 x0 x1 x2 x3 xs) x4 x5 x6))
          ∗ owns (c : Thread nD τ) arg10 fullShare (k0_pay3 x0 x1 x2 x3 xs) ∗ R) := by
  simp only [cc0__ffn_body_eq_skeleton]; unfold cc0__ffn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, HR⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg10.eq_unread hfs0
  sl_exec (disch := first | sl_exact hc0 | sl_exact hc1 | sl_exact hc2)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    delta ffn_last.sl.v21 ffn_last.sl.HS0_1
    rw [View.read_writes_full]
    repeat rw [View.readCov_full]
    repeat rw [View.readAt_full]
    rw [hf0, hf1, hf2, hf3, hf4, hfs0]
  isplitl [H8]
  · iexists _; isplitr; swap; · iexact H8
    ipureintro
    delta ffn_last.sl.v21 ffn_last.sl.HS0_1
    repeat rw [View.readCov_full]
    repeat rw [View.readAt_full]
    rw [hf0, hf1, hf2, hf3, hf4, hf5, hf6, hfs0]
    funext y
    exact slabs_written _ _ _ _ _ _ y
  isplitl [HS0]
  · iexists _; isplitr; swap; · iexact HS0
    ipureintro
    delta ffn_last.sl.HS0_1
    rw [View.read_writes_full]
    repeat rw [View.readAt_full]
    rw [hf0, hf1, hf2, hf3, hfs0]
  iexact HR

end Cert.Proof.Moe

end
-- ==== Proof.ExpertRun.lean ====
/-
  The body of the second TensorCore call, run at each kind of its grid points: the first, the last, and those between.
-/
module

public import proofs.«01_k».proof.Proof.FfnRun

@[expose] public section

set_option maxRecDepth 16384

noncomputable section

namespace Cert.Proof.Moe

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

/-- The body's condition of being at the first expert. -/
abbrev expFirst (i : grid2.Coords) : Prop := (Scalar.cmpi .ne (Scalar.extui (Scalar.cmpi .eq (BitVec.ofNat 32 (i 0).val) 0#32) : BitVec 32) 0#32) = 1#1

/-- What one expert makes of the accumulator: its two half products added, weighted. -/
def expertStep (i : grid2.Coords) (wT : Vec F S64x128 .f32) (acc : Vec F S128x1024 .f32) (x0 : Vec F S128x1024 .f32) (x2 x3 : Vec F S1x1024x512 .f32)
    (x4 x5 : Vec F S1x1x512 .f32) (x6 x7 : Vec F S1x512x1024 .f32) : Vec F S128x1024 .f32 :=
  k2_pay1 (k2_pay5 i wT) (k2_pay6 i wT acc x0 x2 x4 x6) (k2_pay7 x0) (k2_pay8 x3) x5 x7

set_option maxHeartbeats 4000000 in
/-- At the first expert the accumulator and the weights are set before. -/
theorem expert_first (c : Dev nD) (i : grid2.Coords) (arg1 : Memref sig .tc .vmem S128x1024 .f32) (harg1 : arg1.IsWhole) (arg2 : Memref sig .tc .vmem S8x64x16 .f32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S64x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S64x128 .f32) (harg12 : arg12.IsWhole)
    (hc0 : expFirst i) (hc2 : ¬k2_cond2 i = 1#1)
    (x0 : Vec F S128x1024 .f32) (x1 : Vec F S8x64x16 .f32) (x2 : Vec F S1x1024x512 .f32) (x3 : Vec F S1x1024x512 .f32) (x4 : Vec F S1x1x512 .f32) (x5 : Vec F S1x1x512 .f32) (x6 : Vec F S1x512x1024 .f32) (x7 : Vec F S1x512x1024 .f32) (x8 : Vec F S64x1024 .f32) (E : Set ℕ) (R : sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg11 fullShare d) ∗ (∃ d, owns (c : Thread nD τ) arg12 fullShare d) ∗ R)
      ⊢ wp frame (wpE (defs₀ (F := F)) Variants.none c none) E (cc2__expert_body i arg1 harg1 arg2 harg2 arg3 harg3 arg4 harg4 arg5 harg5 arg6 harg6 arg7 harg7 arg8 harg8 arg9 harg9 arg10 harg10 arg11 harg11 arg12 harg12)
        fun _ => iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg11 fullShare (expertStep i (k2_pay3 x1) (k2_pay4 x1 x8) x0 x2 x3 x4 x5 x6 x7) ∗ owns (c : Thread nD τ) arg12 fullShare (k2_pay3 x1) ∗ R) := by
  simp only [cc2__expert_body_eq_skeleton]; unfold cc2__expert_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%d12, %f12, -, H12⟩, HR⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc2)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H11]
  · iexists _; isplitr; swap; · iexact H11
    ipureintro
    try delta expert_first.sl.v51
    try delta expert_first.sl.v8
    try delta expert_first.sl.v10
    try delta expert_first.sl.H11_1
    try delta expert_first.sl.H12_1
    try delta expert_first.sl.H11_2
    rw [View.read_writes_full]
    repeat rw [View.readCov_full]
    repeat rw [View.readAt_full]
    rw [hf0, hf1, hf2, hf3, hf4, hf5, hf6, hf7, hf8]
    try rfl
  isplitl [H12]
  · iexists _; isplitr; swap; · iexact H12
    ipureintro
    try delta expert_first.sl.v51
    try delta expert_first.sl.v8
    try delta expert_first.sl.v10
    try delta expert_first.sl.H11_1
    try delta expert_first.sl.H12_1
    try delta expert_first.sl.H11_2
    rw [View.read_writes_full]
    repeat rw [View.readCov_full]
    repeat rw [View.readAt_full]
    rw [hf1]
    try rfl
  iexact HR

set_option maxHeartbeats 4000000 in
/-- At an expert between, its product is added. -/
theorem expert_mid (c : Dev nD) (i : grid2.Coords) (arg1 : Memref sig .tc .vmem S128x1024 .f32) (harg1 : arg1.IsWhole) (arg2 : Memref sig .tc .vmem S8x64x16 .f32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S64x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S64x128 .f32) (harg12 : arg12.IsWhole)
    (hc0 : ¬expFirst i) (hc2 : ¬k2_cond2 i = 1#1)
    (x0 : Vec F S128x1024 .f32) (x1 : Vec F S8x64x16 .f32) (x2 : Vec F S1x1024x512 .f32) (x3 : Vec F S1x1024x512 .f32) (x4 : Vec F S1x1x512 .f32) (x5 : Vec F S1x1x512 .f32) (x6 : Vec F S1x512x1024 .f32) (x7 : Vec F S1x512x1024 .f32) (x8 : Vec F S64x1024 .f32) (acc : Vec F S128x1024 .f32) (wT : Vec F S64x128 .f32) (E : Set ℕ) (R : sProp 𝕄) :
    iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg11 fullShare acc ∗ owns (c : Thread nD τ) arg12 fullShare wT ∗ R)
      ⊢ wp frame (wpE (defs₀ (F := F)) Variants.none c none) E (cc2__expert_body i arg1 harg1 arg2 harg2 arg3 harg3 arg4 harg4 arg5 harg5 arg6 harg6 arg7 harg7 arg8 harg8 arg9 harg9 arg10 harg10 arg11 harg11 arg12 harg12)
        fun _ => iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg11 fullShare (expertStep i wT acc x0 x2 x3 x4 x5 x6 x7) ∗ owns (c : Thread nD τ) arg12 fullShare wT ∗ R) := by
  simp only [cc2__expert_body_eq_skeleton]; unfold cc2__expert_body_skel
  simp only [k2_part1_eq_skeleton]; unfold k2_part1_skel
  unfold owns
  iintro ⟨⟨%f0, %hf0, H0⟩, ⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, HR⟩
  obtain rfl := harg1.eq_unread hf0; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf11; obtain rfl := harg12.eq_unread hf12
  sl_exec (disch := first | sl_exact hc0 | sl_exact hc2)
  sl_step
  isplitl [H0]
  · iexists _; isplitr; · ipureintro; exact harg1.read_unread _
    iexact H0
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H11]
  · iexists _; isplitr; swap; · iexact H11
    ipureintro
    try delta expert_mid.sl.v51
    try delta expert_mid.sl.v8
    try delta expert_mid.sl.v10
    try delta expert_mid.sl.H11_1
    try delta expert_mid.sl.H12_1
    try delta expert_mid.sl.H11_2
    rw [View.read_writes_full]
    repeat rw [View.readCov_full]
    repeat rw [View.readAt_full]
    rw [hf0, hf2, hf3, hf4, hf5, hf6, hf7, hf11, hf12]
    try rfl
  isplitl [H12]
  · iexists _; isplitr; swap; · iexact H12
    ipureintro
    exact hf12
  iexact HR

set_option maxHeartbeats 4000000 in
/-- At the last expert the accumulator is also written out. -/
theorem expert_last (c : Dev nD) (i : grid2.Coords) (arg1 : Memref sig .tc .vmem S128x1024 .f32) (harg1 : arg1.IsWhole) (arg2 : Memref sig .tc .vmem S8x64x16 .f32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S64x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S64x128 .f32) (harg12 : arg12.IsWhole)
    (hc0 : ¬expFirst i) (hc2 : k2_cond2 i = 1#1)
    (x0 : Vec F S128x1024 .f32) (x1 : Vec F S8x64x16 .f32) (x2 : Vec F S1x1024x512 .f32) (x3 : Vec F S1x1024x512 .f32) (x4 : Vec F S1x1x512 .f32) (x5 : Vec F S1x1x512 .f32) (x6 : Vec F S1x512x1024 .f32) (x7 : Vec F S1x512x1024 .f32) (x8 : Vec F S64x1024 .f32) (acc : Vec F S128x1024 .f32) (wT : Vec F S64x128 .f32) (E : Set ℕ) (R : sProp 𝕄) :
    iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d) ∗ owns (c : Thread nD τ) arg11 fullShare acc ∗ owns (c : Thread nD τ) arg12 fullShare wT ∗ R)
      ⊢ wp frame (wpE (defs₀ (F := F)) Variants.none c none) E (cc2__expert_body i arg1 harg1 arg2 harg2 arg3 harg3 arg4 harg4 arg5 harg5 arg6 harg6 arg7 harg7 arg8 harg8 arg9 harg9 arg10 harg10 arg11 harg11 arg12 harg12)
        fun _ => iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare (expertStep i wT acc x0 x2 x3 x4 x5 x6 x7) ∗ owns (c : Thread nD τ) arg11 fullShare (expertStep i wT acc x0 x2 x3 x4 x5 x6 x7) ∗ owns (c : Thread nD τ) arg12 fullShare wT ∗ R) := by
  simp only [cc2__expert_body_eq_skeleton]; unfold cc2__expert_body_skel
  simp only [k2_part1_eq_skeleton]; unfold k2_part1_skel
  unfold owns
  iintro ⟨⟨%f0, %hf0, H0⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%f11, %hf11, H11⟩, ⟨%f12, %hf12, H12⟩, HR⟩
  obtain rfl := harg1.eq_unread hf0; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf11; obtain rfl := harg12.eq_unread hf12
  sl_exec (disch := first | sl_exact hc0 | sl_exact hc2)
  sl_step
  isplitl [H0]
  · iexists _; isplitr; · ipureintro; exact harg1.read_unread _
    iexact H0
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H10]
  · iexists _; isplitr; swap; · iexact H10
    ipureintro
    try delta expert_last.sl.v51
    try delta expert_last.sl.v8
    try delta expert_last.sl.v10
    try delta expert_last.sl.H11_1
    try delta expert_last.sl.H12_1
    try delta expert_last.sl.H11_2
    rw [View.read_writes_full]
    repeat rw [View.readCov_full]
    repeat rw [View.readAt_full]
    rw [hf0, hf2, hf3, hf4, hf5, hf6, hf7, hf11, hf12]
    try rfl
  isplitl [H11]
  · iexists _; isplitr; swap; · iexact H11
    ipureintro
    try delta expert_last.sl.v51
    try delta expert_last.sl.v8
    try delta expert_last.sl.v10
    try delta expert_last.sl.H11_1
    try delta expert_last.sl.H12_1
    try delta expert_last.sl.H11_2
    rw [View.read_writes_full]
    repeat rw [View.readCov_full]
    repeat rw [View.readAt_full]
    rw [hf0, hf2, hf3, hf4, hf5, hf6, hf7, hf11, hf12]
    try rfl
  isplitl [H12]
  · iexists _; isplitr; swap; · iexact H12
    ipureintro
    exact hf12
  iexact HR

end Cert.Proof.Moe

end
-- ==== Proof.Ffn.lean ====
/-
  The first TensorCore call: what its windows and its scratch hold from point to point, and that its body keeps to it.
-/
module

public import proofs.«01_k».proof.Proof.ExpertRun
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.Proof.Moe

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat Cfg Window BodyObligation cellOf)

variable {F : FTy → Type} [FloatOps F] [Named F]

local notation "𝕄" => MT nD τ sig (HIx 1) (Elt F) ℕ UU ℕ

/-- A core's TensorCore buffers at some contents. -/
abbrev Vals (F : FTy → Type) : Type := (c : Dev nD) → (b : Ref sig .tc) → Buf (Elt F) ((c : Thread nD τ).loc b)

variable (V0 : Vals F)

/-- Window `w`'s block at point `t`, of its array at entry. -/
def blk0 (c : Dev nD) (w : Fin cfg0.W) (t : Fin cfg0.N) : ((cfg0.win w).xblock (cfg0.grid.coords t)).Idx → Elt F (cfg0.win w).elt :=
  ((cfg0.win w).blk t).view.read (Elt F) (V0 c (Pipeline.arrRef spec0 w))

/-- The two points. -/
abbrev pt0 : Fin cfg0.N := t0_0
abbrev pt1 : Fin cfg0.N := t0_1

/-- The first half product, carried in the scratch. -/
def ffnMid (c : Dev nD) : Vec F S128x1024 .f32 := k0_pay2 (blk0 V0 c 0 pt0) (blk0 V0 c 1 pt0) (blk0 V0 c 2 pt0) (blk0 V0 c 3 pt0)
/-- Both half products. -/
def ffnAcc (c : Dev nD) : Vec F S128x1024 .f32 := k0_pay3 (blk0 V0 c 0 pt1) (blk0 V0 c 1 pt1) (blk0 V0 c 2 pt1) (blk0 V0 c 3 pt1) (ffnMid V0 c)
/-- The tokens. -/
def ffnTok (c : Dev nD) : Vec F S128x1024 .f32 := k0_pay8 (ffnAcc V0 c) (blk0 V0 c 4 pt1)
/-- The logits. -/
def ffnLog (c : Dev nD) : Vec F S8x64x16 .f32 := slabs (k0_pay9 (ffnAcc V0 c) (blk0 V0 c 4 pt1) (blk0 V0 c 5 pt1) (blk0 V0 c 6 pt1))

/-- The scratch between the points, beside the scoped buffers that this call does not touch. -/
def ffnInv (c : Dev nD) : ℕ → sProp 𝕄
  | 1 => iprop(owns (c : Thread nD τ) (Memref.whole cc0_scratch0) fullShare (ffnMid V0 c) ∗ Pipeline.scopedRestBut spec0 c [cc0_scratch0])
  | _ => Pipeline.scopedRest spec0 c

variable (O : Dev nD → CellTallies nD τ sig (HIx 1)) (S : Dev nD → Set (SemLoc sig × HIx 1))

/-- The first call's proof data. -/
def dat0 (c : Dev nD) : Dat τ (Elt F) (HIx 1) ℕ UU ℕ cfg0 c where
  A w := V0 c (Pipeline.arrRef spec0 w)
  after w t := match w with
    | ⟨0, _⟩ => blk0 V0 c 0 t
    | ⟨1, _⟩ => blk0 V0 c 1 t
    | ⟨2, _⟩ => blk0 V0 c 2 t
    | ⟨3, _⟩ => blk0 V0 c 3 t
    | ⟨4, _⟩ => blk0 V0 c 4 t
    | ⟨5, _⟩ => blk0 V0 c 5 t
    | ⟨6, _⟩ => blk0 V0 c 6 t
    | ⟨7, _⟩ => ffnTok V0 c
    | ⟨8, _⟩ => ffnLog V0 c
  Φ t := ffnInv V0 c t.val
  q _ := fullShare
  owed _ := O c
  recorded _ := S c

theorem A0_eq (c : Dev nD) (w : Fin cfg0.W) : (dat0 V0 O S c).A w = V0 c (Pipeline.arrRef spec0 w) := by dsimp only [dat0]
theorem after0_0 (c : Dev nD) (t : Fin cfg0.N) : (dat0 V0 O S c).after 0 t = blk0 V0 c 0 t := by dsimp only [dat0]
theorem after0_1 (c : Dev nD) (t : Fin cfg0.N) : (dat0 V0 O S c).after 1 t = blk0 V0 c 1 t := by dsimp only [dat0]
theorem after0_2 (c : Dev nD) (t : Fin cfg0.N) : (dat0 V0 O S c).after 2 t = blk0 V0 c 2 t := by dsimp only [dat0]
theorem after0_3 (c : Dev nD) (t : Fin cfg0.N) : (dat0 V0 O S c).after 3 t = blk0 V0 c 3 t := by dsimp only [dat0]
theorem after0_4 (c : Dev nD) (t : Fin cfg0.N) : (dat0 V0 O S c).after 4 t = blk0 V0 c 4 t := by dsimp only [dat0]
theorem after0_5 (c : Dev nD) (t : Fin cfg0.N) : (dat0 V0 O S c).after 5 t = blk0 V0 c 5 t := by dsimp only [dat0]
theorem after0_6 (c : Dev nD) (t : Fin cfg0.N) : (dat0 V0 O S c).after 6 t = blk0 V0 c 6 t := by dsimp only [dat0]
theorem after0_7 (c : Dev nD) (t : Fin cfg0.N) : (dat0 V0 O S c).after 7 t = ffnTok V0 c := by dsimp only [dat0]
theorem after0_8 (c : Dev nD) (t : Fin cfg0.N) : (dat0 V0 O S c).after 8 t = ffnLog V0 c := by dsimp only [dat0]
theorem before0_0 (c : Dev nD) (t : Fin cfg0.N) (d) : (dat0 V0 O S c).before 0 t d = blk0 V0 c 0 t :=
  ((dat0 V0 O S c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 V0 O S c).before 1 t d = blk0 V0 c 1 t :=
  ((dat0 V0 O S c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem before0_2 (c : Dev nD) (t : Fin cfg0.N) (d) : (dat0 V0 O S c).before 2 t d = blk0 V0 c 2 t :=
  ((dat0 V0 O S c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem before0_3 (c : Dev nD) (t : Fin cfg0.N) (d) : (dat0 V0 O S c).before 3 t d = blk0 V0 c 3 t :=
  ((dat0 V0 O S c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)
theorem before0_4 (c : Dev nD) (t : Fin cfg0.N) (d) : (dat0 V0 O S c).before 4 t d = blk0 V0 c 4 t :=
  ((dat0 V0 O S c).before_in_eq_fetched 4 rfl (fun _ => rfl) (fun _ _ _ => rfl) (fun t => by rw [after0_4]; unfold Dat.blockOf blk0; rw [A0_eq]; try rfl) t d).trans
    (by unfold Dat.fetched Dat.blockOf blk0; rw [A0_eq]; try rfl)
theorem before0_5 (c : Dev nD) (t : Fin cfg0.N) (d) : (dat0 V0 O S c).before 5 t d = blk0 V0 c 5 t :=
  ((dat0 V0 O S c).before_in_eq_fetched 5 rfl (fun _ => rfl) (fun _ _ _ => rfl) (fun t => by rw [after0_5]; unfold Dat.blockOf blk0; rw [A0_eq]; try rfl) t d).trans
    (by unfold Dat.fetched Dat.blockOf blk0; rw [A0_eq]; try rfl)
theorem before0_6 (c : Dev nD) (t : Fin cfg0.N) (d) : (dat0 V0 O S c).before 6 t d = blk0 V0 c 6 t :=
  ((dat0 V0 O S c).before_in_eq_fetched 6 rfl (fun _ => rfl) (fun _ _ _ => rfl) (fun t => by rw [after0_6]; unfold Dat.blockOf blk0; rw [A0_eq]; try rfl) t d).trans
    (by unfold Dat.fetched Dat.blockOf blk0; rw [A0_eq]; try rfl)

theorem scopedRest0_split (c : Dev nD) :
    (Pipeline.scopedRest spec0 c : sProp 𝕄)
      = iprop((∃ d, owns (c : Thread nD τ) (Memref.whole cc0_scratch0) fullShare d) ∗ Pipeline.scopedRestBut spec0 c [cc0_scratch0]) := by
  rw [Pipeline.scopedRest_split_of_list spec0 c [cc0_scratch0] (by decide) (by decide)]
  simp only [owns_whole]
  rfl

theorem ffnFirst_iff (t : Fin cfg0.N) : ffnFirst (grid0.coords t) ↔ t.val % 2 = 0 :=
  (fun t => by
    have ht : t.val < 2 := Nat.lt_of_lt_of_eq t.isLt N_0
    have e0 : (grid0.coords t 0).val = t.val / 1 % 2 := Pipeline.Grid.coords_val t 0 (by decide) rfl
    simp only [ffnFirst, e0]
    word_cmp : ∀ t : Fin grid0.N, ffnFirst (grid0.coords t) ↔ t.val % 2 = 0) t

theorem ffnLater_iff (t : Fin cfg0.N) : ffnLater (grid0.coords t) ↔ t.val % 2 = 1 :=
  (fun t => by
    have ht : t.val < 2 := Nat.lt_of_lt_of_eq t.isLt N_0
    have e0 : (grid0.coords t 0).val = t.val / 1 % 2 := Pipeline.Grid.coords_val t 0 (by decide) rfl
    simp only [ffnLater, e0]
    word_cmp : ∀ t : Fin grid0.N, ffnLater (grid0.coords t) ↔ t.val % 2 = 1) t

theorem k0_cond3_iff (t : Fin cfg0.N) : k0_cond3 (grid0.coords t) = 1#1 ↔ t.val % 2 = 1 :=
  (fun t => by
    have ht : t.val < 2 := Nat.lt_of_lt_of_eq t.isLt N_0
    have e0 : (grid0.coords t 0).val = t.val / 1 % 2 := Pipeline.Grid.coords_val t 0 (by decide) rfl
    simp only [k0_cond3, e0]
    word_cmp : ∀ t : Fin grid0.N, k0_cond3 (grid0.coords t) = 1#1 ↔ t.val % 2 = 1) t

/-- What the body is handed at point `t`. -/
def bodyPre0 (c : Dev nD) (t : Fin cfg0.N) : sProp 𝕄 :=
  iprop((dat0 V0 O S c).Φ t.castSucc ∗ (dat0 V0 O S c).owesAt none t.castSucc
    ∗ (∃ d, owns (c : Thread nD τ) (st0_0 t) fullShare ((dat0 V0 O S c).before 0 t d))
    ∗ (∃ d, owns (c : Thread nD τ) (st0_1 t) fullShare ((dat0 V0 O S c).before 1 t d))
    ∗ (∃ d, owns (c : Thread nD τ) (st0_2 t) fullShare ((dat0 V0 O S c).before 2 t d))
    ∗ (∃ d, owns (c : Thread nD τ) (st0_3 t) fullShare ((dat0 V0 O S c).before 3 t d))
    ∗ (∃ d, owns (c : Thread nD τ) (st0_4 t) fullShare ((dat0 V0 O S c).before 4 t d))
    ∗ (∃ d, owns (c : Thread nD τ) (st0_5 t) fullShare ((dat0 V0 O S c).before 5 t d))
    ∗ (∃ d, owns (c : Thread nD τ) (st0_6 t) fullShare ((dat0 V0 O S c).before 6 t d))
    ∗ (∃ d, owns (c : Thread nD τ) (st0_7 t) fullShare ((dat0 V0 O S c).before 7 t d))
    ∗ (∃ d, owns (c : Thread nD τ) (st0_8 t) fullShare ((dat0 V0 O S c).before 8 t d)))

/-- What it returns. -/
def bodyPost0 (c : Dev nD) (t : Fin cfg0.N) : sProp 𝕄 :=
  iprop((dat0 V0 O S c).Φ t.succ ∗ (dat0 V0 O S c).owesAt none t.succ
    ∗ (dat0 V0 O S c).leavesExact 0 t
    ∗ (dat0 V0 O S c).leavesExact 1 t
    ∗ (dat0 V0 O S c).leavesExact 2 t
    ∗ (dat0 V0 O S c).leavesExact 3 t
    ∗ (dat0 V0 O S c).leavesExact 4 t
    ∗ (dat0 V0 O S c).leavesExact 5 t
    ∗ (dat0 V0 O S c).leavesExact 6 t
    ∗ (dat0 V0 O S c).leavesExact 7 t
    ∗ (dat0 V0 O S c).leavesExact 8 t)

theorem leaves0_0 (c : Dev nD) (t : Fin cfg0.N) : ((dat0 V0 O S c).leavesExact 0 t : sProp 𝕄) = owns (c : Thread nD τ) (st0_0 t) fullShare (blk0 V0 c 0 t) := by
  unfold Dat.leavesExact; rw [show cfg0.idle 0 (cfg0.grid.coords t) = false from rfl, after0_0]
theorem leaves0_1 (c : Dev nD) (t : Fin cfg0.N) : ((dat0 V0 O S c).leavesExact 1 t : sProp 𝕄) = owns (c : Thread nD τ) (st0_1 t) fullShare (blk0 V0 c 1 t) := by
  unfold Dat.leavesExact; rw [show cfg0.idle 1 (cfg0.grid.coords t) = false from rfl, after0_1]
theorem leaves0_2 (c : Dev nD) (t : Fin cfg0.N) : ((dat0 V0 O S c).leavesExact 2 t : sProp 𝕄) = owns (c : Thread nD τ) (st0_2 t) fullShare (blk0 V0 c 2 t) := by
  unfold Dat.leavesExact; rw [show cfg0.idle 2 (cfg0.grid.coords t) = false from rfl, after0_2]
theorem leaves0_3 (c : Dev nD) (t : Fin cfg0.N) : ((dat0 V0 O S c).leavesExact 3 t : sProp 𝕄) = owns (c : Thread nD τ) (st0_3 t) fullShare (blk0 V0 c 3 t) := by
  unfold Dat.leavesExact; rw [show cfg0.idle 3 (cfg0.grid.coords t) = false from rfl, after0_3]
theorem leaves0_4 (c : Dev nD) (t : Fin cfg0.N) : ((dat0 V0 O S c).leavesExact 4 t : sProp 𝕄) = owns (c : Thread nD τ) (st0_4 t) fullShare (blk0 V0 c 4 t) := by
  unfold Dat.leavesExact; rw [show cfg0.idle 4 (cfg0.grid.coords t) = false from rfl, after0_4]
theorem leaves0_5 (c : Dev nD) (t : Fin cfg0.N) : ((dat0 V0 O S c).leavesExact 5 t : sProp 𝕄) = owns (c : Thread nD τ) (st0_5 t) fullShare (blk0 V0 c 5 t) := by
  unfold Dat.leavesExact; rw [show cfg0.idle 5 (cfg0.grid.coords t) = false from rfl, after0_5]
theorem leaves0_6 (c : Dev nD) (t : Fin cfg0.N) : ((dat0 V0 O S c).leavesExact 6 t : sProp 𝕄) = owns (c : Thread nD τ) (st0_6 t) fullShare (blk0 V0 c 6 t) := by
  unfold Dat.leavesExact; rw [show cfg0.idle 6 (cfg0.grid.coords t) = false from rfl, after0_6]
theorem leaves0_7 (c : Dev nD) (t : Fin cfg0.N) (h : k0_cond3 (grid0.coords t) = 1#1) : ((dat0 V0 O S c).leavesExact 7 t : sProp 𝕄) = owns (c : Thread nD τ) (st0_7 t) fullShare (ffnTok V0 c) := by
  unfold Dat.leavesExact; rw [show cfg0.idle 7 (cfg0.grid.coords t) = false by show (!(k0_cond3 (grid0.coords t) == 1#1)) = false; rw [h]; rfl, after0_7]
theorem leaves0_7_idle (c : Dev nD) (t : Fin cfg0.N) (h : ¬k0_cond3 (grid0.coords t) = 1#1) :
    ((dat0 V0 O S c).leavesExact 7 t : sProp 𝕄) = iprop(∃ d, owns (c : Thread nD τ) (st0_7 t) fullShare ((dat0 V0 O S c).before 7 t d)) :=
  (dat0 V0 O S c).leavesExact_idle 7 t (by show (!(k0_cond3 (grid0.coords t) == 1#1)) = true; simp [h])
    (by rw [← Bool.not_eq_true, flush0_7]; exact fun h' => h ((k0_cond3_iff t).mpr h'))
theorem leaves0_8 (c : Dev nD) (t : Fin cfg0.N) (h : k0_cond3 (grid0.coords t) = 1#1) : ((dat0 V0 O S c).leavesExact 8 t : sProp 𝕄) = owns (c : Thread nD τ) (st0_8 t) fullShare (ffnLog V0 c) := by
  unfold Dat.leavesExact; rw [show cfg0.idle 8 (cfg0.grid.coords t) = false by show (!(k0_cond3 (grid0.coords t) == 1#1)) = false; rw [h]; rfl, after0_8]
theorem leaves0_8_idle (c : Dev nD) (t : Fin cfg0.N) (h : ¬k0_cond3 (grid0.coords t) = 1#1) :
    ((dat0 V0 O S c).leavesExact 8 t : sProp 𝕄) = iprop(∃ d, owns (c : Thread nD τ) (st0_8 t) fullShare ((dat0 V0 O S c).before 8 t d)) :=
  (dat0 V0 O S c).leavesExact_idle 8 t (by show (!(k0_cond3 (grid0.coords t) == 1#1)) = true; simp [h])
    (by rw [← Bool.not_eq_true, flush0_8]; exact fun h' => h ((k0_cond3_iff t).mpr h'))

set_option maxHeartbeats 1600000 in
/-- The body at a point. -/
theorem sound_body0 (c : Dev nD) (t : Fin cfg0.N) :
    bodyPre0 V0 O S c t ⊢ wp frame (wpE (defs₀ (F := F)) Variants.none c none) Set.univ (bodyAt0 t) (fun _ => bodyPost0 V0 O S c t) := by
  unfold bodyPre0 bodyPost0 bodyAt0
  simp only [before0_0, before0_1, before0_2, before0_3, before0_4, before0_5, before0_6,
    leaves0_0, leaves0_1, leaves0_2, leaves0_3, leaves0_4, leaves0_5, leaves0_6]
  rw [show (dat0 V0 O S c).owesAt none t.succ = (dat0 V0 O S c).owesAt none t.castSucc from rfl]
  rcases fin_N0 t with ht | ht
  · have c0 : ffnFirst (grid0.coords t) := (ffnFirst_iff t).mpr (by rw [ht]; rfl)
    have c1 : ¬ffnLater (grid0.coords t) := fun h => absurd ((ffnLater_iff t).mp h) (by rw [ht]; decide)
    have c2 : ¬k0_cond3 (grid0.coords t) = 1#1 := fun h => absurd ((k0_cond3_iff t).mp h) (by rw [ht]; decide)
    rw [leaves0_7_idle V0 O S c t c2, leaves0_8_idle V0 O S c t c2]
    rw [show (dat0 V0 O S c).Φ t.castSucc = Pipeline.scopedRest spec0 c by rw [ht]; rfl,
      show (dat0 V0 O S c).Φ t.succ = iprop(owns (c : Thread nD τ) (Memref.whole cc0_scratch0) fullShare (k0_pay2 (blk0 V0 c 0 t) (blk0 V0 c 1 t) (blk0 V0 c 2 t) (blk0 V0 c 3 t)) ∗ Pipeline.scopedRestBut spec0 c [cc0_scratch0]) by rw [ht]; rfl,
      scopedRest0_split]
    refine BIBase.Entails.trans ?_ ((ffn_first c (grid0.coords t) _ _ _ _ _ _ _ _ _ _ _ _ _ _ _ _ _ _ _ _ c0 c1 c2 (blk0 V0 c 0 t) (blk0 V0 c 1 t) (blk0 V0 c 2 t) (blk0 V0 c 3 t) Set.univ
      iprop((dat0 V0 O S c).owesAt none t.castSucc ∗ Pipeline.scopedRestBut spec0 c [cc0_scratch0] ∗ owns (c : Thread nD τ) (st0_4 t) fullShare (blk0 V0 c 4 t) ∗ owns (c : Thread nD τ) (st0_5 t) fullShare (blk0 V0 c 5 t) ∗ owns (c : Thread nD τ) (st0_6 t) fullShare (blk0 V0 c 6 t) ∗ (∃ d, owns (c : Thread nD τ) (st0_7 t) fullShare ((dat0 V0 O S c).before 7 t d)) ∗ (∃ d, owns (c : Thread nD τ) (st0_8 t) fullShare ((dat0 V0 O S c).before 8 t d)))).trans (wp_mono frame _ _ fun _ => ?_))
    · iintro ⟨⟨HS, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iframe H0 H1 H2 H3 HS HO HR H4 H5 H6
      isplitl [H7]
      · iexists d7; iexact H7
      · iexists d8; iexact H8
    · iintro ⟨H0, H1, H2, H3, HS, HO, HR, H4, H5, H6, H7, H8⟩
      iframe HS HR HO H0 H1 H2 H3 H4 H5 H6 H7 H8
  · have c0 : ¬ffnFirst (grid0.coords t) := fun h => absurd ((ffnFirst_iff t).mp h) (by rw [ht]; decide)
    have c1 : ffnLater (grid0.coords t) := (ffnLater_iff t).mpr (by rw [ht]; rfl)
    have c2 : k0_cond3 (grid0.coords t) = 1#1 := (k0_cond3_iff t).mpr (by rw [ht]; rfl)
    rw [leaves0_7 V0 O S c t c2, leaves0_8 V0 O S c t c2]
    rw [show (dat0 V0 O S c).Φ t.castSucc = iprop(owns (c : Thread nD τ) (Memref.whole cc0_scratch0) fullShare (ffnMid V0 c) ∗ Pipeline.scopedRestBut spec0 c [cc0_scratch0]) by rw [ht]; rfl,
      show (dat0 V0 O S c).Φ t.succ = Pipeline.scopedRest spec0 c by rw [ht]; rfl,
      scopedRest0_split,
      show ffnTok V0 c = k0_pay8 (k0_pay3 (blk0 V0 c 0 t) (blk0 V0 c 1 t) (blk0 V0 c 2 t) (blk0 V0 c 3 t) (ffnMid V0 c)) (blk0 V0 c 4 t) by rw [ht]; rfl,
      show ffnLog V0 c = slabs (k0_pay9 (k0_pay3 (blk0 V0 c 0 t) (blk0 V0 c 1 t) (blk0 V0 c 2 t) (blk0 V0 c 3 t) (ffnMid V0 c)) (blk0 V0 c 4 t) (blk0 V0 c 5 t) (blk0 V0 c 6 t)) by rw [ht]; rfl]
    refine BIBase.Entails.trans ?_ ((ffn_last c (grid0.coords t) _ _ _ _ _ _ _ _ _ _ _ _ _ _ _ _ _ _ _ _ c0 c1 c2 (blk0 V0 c 0 t) (blk0 V0 c 1 t) (blk0 V0 c 2 t) (blk0 V0 c 3 t) (blk0 V0 c 4 t) (blk0 V0 c 5 t) (blk0 V0 c 6 t) (ffnMid V0 c) Set.univ
      iprop((dat0 V0 O S c).owesAt none t.castSucc ∗ Pipeline.scopedRestBut spec0 c [cc0_scratch0])).trans (wp_mono frame _ _ fun _ => ?_))
    · iintro ⟨⟨HS, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iframe H0 H1 H2 H3 H4 H5 H6 HS HO HR
      isplitl [H7]
      · iexists _; iexact H7
      · iexists _; iexact H8
    · iintro ⟨H0, H1, H2, H3, H4, H5, H6, H7, H8, HS, HO, HR⟩
      iframe HR HO H0 H1 H2 H3 H4 H5 H6 H7 H8
      iexists _; iexact HS

/-- The body table's row at point `t`'s slots is the body as `bodyAt0` spells it. -/
theorem row0 (t : Fin cfg0.N) : defs₀ (F := F) .tc cfg0.body (cfg0.bodyArgs t (cfg0.slots t)) = bodyAt0 t := by
  rfl

/-- The first call's body keeps to its data at every point. -/
theorem obligation0 (c : Dev nD) : BodyObligation (dat0 V0 O S c) (defs₀ (F := F)) Variants.none none Set.univ := fun t => by
  rw [bigSep_W0, bigSep_W0, row0]
  exact triple_restated (sound_body0 V0 O S c t) rfl .rfl fun _ => .rfl

end Cert.Proof.Moe

end
-- ==== Proof.Expert.lean ====
/-
  The second TensorCore call: what its windows and its two scratches hold from point to point, and that its body keeps to it.
-/
module

public import proofs.«01_k».proof.Proof.Ffn
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.Proof.Moe

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat Cfg Window BodyObligation cellOf)

variable {F : FTy → Type} [FloatOps F] [Named F]

local notation "𝕄" => MT nD τ sig (HIx 1) (Elt F) ℕ UU ℕ

variable (V2 : Vals F)

/-- Window `w`'s block at point `t`, of its array at entry. -/
def blk2 (c : Dev nD) (w : Fin cfg2.W) (t : Fin cfg2.N) : ((cfg2.win w).xblock (cfg2.grid.coords t)).Idx → Elt F (cfg2.win w).elt :=
  ((cfg2.win w).blk t).view.read (Elt F) (V2 c (Pipeline.arrRef spec2 w))

/-- Expert `n`'s point. -/
def ptE (n : ℕ) : Fin cfg2.N := ⟨n % 64, Nat.lt_of_lt_of_eq (Nat.mod_lt n (by decide)) N_2.symm⟩

theorem ptE_val (t : Fin cfg2.N) : ptE t.val = t := Fin.ext (Nat.mod_eq_of_lt (Nat.lt_of_lt_of_eq t.isLt N_2))

/-- The routing weights, a row for an expert. -/
def expW (c : Dev nD) : Vec F S64x128 .f32 := k2_pay3 (blk2 V2 c 1 (ptE 0))

/-- The accumulator before expert `n`. -/
def expAcc (c : Dev nD) : ℕ → Vec F S128x1024 .f32
  | 0 => k2_pay4 (blk2 V2 c 1 (ptE 0)) (blk2 V2 c 8 (ptE 0))
  | n + 1 => expertStep (grid2.coords (ptE n)) (expW V2 c) (expAcc c n) (blk2 V2 c 0 (ptE n)) (blk2 V2 c 2 (ptE n)) (blk2 V2 c 3 (ptE n)) (blk2 V2 c 4 (ptE n)) (blk2 V2 c 5 (ptE n)) (blk2 V2 c 6 (ptE n)) (blk2 V2 c 7 (ptE n))

/-- The scratches between the points, beside the scoped buffers that this call does not touch. -/
def expInv (c : Dev nD) : ℕ → sProp 𝕄
  | 0 => Pipeline.scopedRest spec2 c
  | n + 1 => iprop(owns (c : Thread nD τ) (Memref.whole cc2_scratch0) fullShare (expAcc V2 c (n + 1)) ∗ owns (c : Thread nD τ) (Memref.whole cc2_scratch1) fullShare (expW V2 c)
      ∗ Pipeline.scopedRestBut spec2 c [cc2_scratch0, cc2_scratch1])

variable (O : Dev nD → CellTallies nD τ sig (HIx 1)) (S : Dev nD → Set (SemLoc sig × HIx 1))

/-- The second call's proof data. -/
def dat2 (c : Dev nD) : Dat τ (Elt F) (HIx 1) ℕ UU ℕ cfg2 c where
  A w := V2 c (Pipeline.arrRef spec2 w)
  after w t := match w with
    | ⟨0, _⟩ => blk2 V2 c 0 t
    | ⟨1, _⟩ => blk2 V2 c 1 t
    | ⟨2, _⟩ => blk2 V2 c 2 t
    | ⟨3, _⟩ => blk2 V2 c 3 t
    | ⟨4, _⟩ => blk2 V2 c 4 t
    | ⟨5, _⟩ => blk2 V2 c 5 t
    | ⟨6, _⟩ => blk2 V2 c 6 t
    | ⟨7, _⟩ => blk2 V2 c 7 t
    | ⟨8, _⟩ => blk2 V2 c 8 t
    | ⟨9, _⟩ => expAcc V2 c 64
  Φ t := expInv V2 c t.val
  q w := Pipeline.shareOf spec2 w
  owed _ := O c
  recorded _ := S c

theorem A2_eq (c : Dev nD) (w : Fin cfg2.W) : (dat2 V2 O S c).A w = V2 c (Pipeline.arrRef spec2 w) := by dsimp only [dat2]
theorem after2_0 (c : Dev nD) (t : Fin cfg2.N) : (dat2 V2 O S c).after 0 t = blk2 V2 c 0 t := by dsimp only [dat2]
theorem after2_1 (c : Dev nD) (t : Fin cfg2.N) : (dat2 V2 O S c).after 1 t = blk2 V2 c 1 t := by dsimp only [dat2]
theorem after2_2 (c : Dev nD) (t : Fin cfg2.N) : (dat2 V2 O S c).after 2 t = blk2 V2 c 2 t := by dsimp only [dat2]
theorem after2_3 (c : Dev nD) (t : Fin cfg2.N) : (dat2 V2 O S c).after 3 t = blk2 V2 c 3 t := by dsimp only [dat2]
theorem after2_4 (c : Dev nD) (t : Fin cfg2.N) : (dat2 V2 O S c).after 4 t = blk2 V2 c 4 t := by dsimp only [dat2]
theorem after2_5 (c : Dev nD) (t : Fin cfg2.N) : (dat2 V2 O S c).after 5 t = blk2 V2 c 5 t := by dsimp only [dat2]
theorem after2_6 (c : Dev nD) (t : Fin cfg2.N) : (dat2 V2 O S c).after 6 t = blk2 V2 c 6 t := by dsimp only [dat2]
theorem after2_7 (c : Dev nD) (t : Fin cfg2.N) : (dat2 V2 O S c).after 7 t = blk2 V2 c 7 t := by dsimp only [dat2]
theorem after2_8 (c : Dev nD) (t : Fin cfg2.N) : (dat2 V2 O S c).after 8 t = blk2 V2 c 8 t := by dsimp only [dat2]
theorem after2_9 (c : Dev nD) (t : Fin cfg2.N) : (dat2 V2 O S c).after 9 t = expAcc V2 c 64 := by dsimp only [dat2]
theorem before2_0 (c : Dev nD) (t : Fin cfg2.N) (d) : (dat2 V2 O S c).before 0 t d = blk2 V2 c 0 t :=
  ((dat2 V2 O S c).before_in_eq_fetched 0 rfl (fun _ => rfl) (fun _ _ _ => rfl) (fun t => by rw [after2_0]; unfold Dat.blockOf blk2; rw [A2_eq]; try rfl) t d).trans
    (by unfold Dat.fetched Dat.blockOf blk2; rw [A2_eq]; try rfl)
theorem before2_1 (c : Dev nD) (t : Fin cfg2.N) (d) : (dat2 V2 O S c).before 1 t d = blk2 V2 c 1 t :=
  ((dat2 V2 O S c).before_in_eq_fetched 1 rfl (fun _ => rfl) (fun _ _ _ => rfl) (fun t => by rw [after2_1]; unfold Dat.blockOf blk2; rw [A2_eq]; try rfl) t d).trans
    (by unfold Dat.fetched Dat.blockOf blk2; rw [A2_eq]; try rfl)
theorem before2_2 (c : Dev nD) (t : Fin cfg2.N) (d) : (dat2 V2 O S c).before 2 t d = blk2 V2 c 2 t :=
  ((dat2 V2 O S c).before_in_eq_fetched 2 rfl (fun _ => rfl) (fun _ _ _ => rfl) (fun t => by rw [after2_2]; unfold Dat.blockOf blk2; rw [A2_eq]; try rfl) t d).trans
    (by unfold Dat.fetched Dat.blockOf blk2; rw [A2_eq]; try rfl)
theorem before2_3 (c : Dev nD) (t : Fin cfg2.N) (d) : (dat2 V2 O S c).before 3 t d = blk2 V2 c 3 t :=
  ((dat2 V2 O S c).before_in_eq_fetched 3 rfl (fun _ => rfl) (fun _ _ _ => rfl) (fun t => by rw [after2_3]; unfold Dat.blockOf blk2; rw [A2_eq]; try rfl) t d).trans
    (by unfold Dat.fetched Dat.blockOf blk2; rw [A2_eq]; try rfl)
theorem before2_4 (c : Dev nD) (t : Fin cfg2.N) (d) : (dat2 V2 O S c).before 4 t d = blk2 V2 c 4 t :=
  ((dat2 V2 O S c).before_in_eq_fetched 4 rfl (fun _ => rfl) (fun _ _ _ => rfl) (fun t => by rw [after2_4]; unfold Dat.blockOf blk2; rw [A2_eq]; try rfl) t d).trans
    (by unfold Dat.fetched Dat.blockOf blk2; rw [A2_eq]; try rfl)
theorem before2_5 (c : Dev nD) (t : Fin cfg2.N) (d) : (dat2 V2 O S c).before 5 t d = blk2 V2 c 5 t :=
  ((dat2 V2 O S c).before_in_eq_fetched 5 rfl (fun _ => rfl) (fun _ _ _ => rfl) (fun t => by rw [after2_5]; unfold Dat.blockOf blk2; rw [A2_eq]; try rfl) t d).trans
    (by unfold Dat.fetched Dat.blockOf blk2; rw [A2_eq]; try rfl)
theorem before2_6 (c : Dev nD) (t : Fin cfg2.N) (d) : (dat2 V2 O S c).before 6 t d = blk2 V2 c 6 t :=
  ((dat2 V2 O S c).before_in_eq_fetched 6 rfl (fun _ => rfl) (fun _ _ _ => rfl) (fun t => by rw [after2_6]; unfold Dat.blockOf blk2; rw [A2_eq]; try rfl) t d).trans
    (by unfold Dat.fetched Dat.blockOf blk2; rw [A2_eq]; try rfl)
theorem before2_7 (c : Dev nD) (t : Fin cfg2.N) (d) : (dat2 V2 O S c).before 7 t d = blk2 V2 c 7 t :=
  ((dat2 V2 O S c).before_in_eq_fetched 7 rfl (fun _ => rfl) (fun _ _ _ => rfl) (fun t => by rw [after2_7]; unfold Dat.blockOf blk2; rw [A2_eq]; try rfl) t d).trans
    (by unfold Dat.fetched Dat.blockOf blk2; rw [A2_eq]; try rfl)
theorem before2_8 (c : Dev nD) (t : Fin cfg2.N) (d) : (dat2 V2 O S c).before 8 t d = blk2 V2 c 8 t :=
  ((dat2 V2 O S c).before_in_eq_fetched 8 rfl (fun _ => rfl) (fun _ _ _ => rfl) (fun t => by rw [after2_8]; unfold Dat.blockOf blk2; rw [A2_eq]; try rfl) t d).trans
    (by unfold Dat.fetched Dat.blockOf blk2; rw [A2_eq]; try rfl)

theorem expFirst_iff (t : Fin cfg2.N) : expFirst (grid2.coords t) ↔ t.val % 64 = 0 :=
  (fun t => by
    have ht : t.val < 64 := Nat.lt_of_lt_of_eq t.isLt N_2
    have e0 : (grid2.coords t 0).val = t.val / 1 % 64 := Pipeline.Grid.coords_val t 0 (by decide) rfl
    simp only [expFirst, e0]
    word_cmp : ∀ t : Fin grid2.N, expFirst (grid2.coords t) ↔ t.val % 64 = 0) t

theorem k2_cond2_iff (t : Fin cfg2.N) : k2_cond2 (grid2.coords t) = 1#1 ↔ t.val % 64 = 63 :=
  (fun t => by
    have ht : t.val < 64 := Nat.lt_of_lt_of_eq t.isLt N_2
    have e0 : (grid2.coords t 0).val = t.val / 1 % 64 := Pipeline.Grid.coords_val t 0 (by decide) rfl
    simp only [k2_cond2, e0]
    word_cmp : ∀ t : Fin grid2.N, k2_cond2 (grid2.coords t) = 1#1 ↔ t.val % 64 = 63) t

theorem scopedRest2_split (c : Dev nD) :
    (Pipeline.scopedRest spec2 c : sProp 𝕄)
      = iprop((∃ d, owns (c : Thread nD τ) (Memref.whole cc2_scratch0) fullShare d) ∗ (∃ d, owns (c : Thread nD τ) (Memref.whole cc2_scratch1) fullShare d)
        ∗ Pipeline.scopedRestBut spec2 c [cc2_scratch0, cc2_scratch1]) := by
  rw [Pipeline.scopedRest_split_of_list spec2 c [cc2_scratch0, cc2_scratch1] (by decide) (by decide)]
  simp only [owns_whole]
  exact equiv_iff.mp ⟨BI.sep_assoc, BI.sep_assoc'⟩

/-- What the body is handed at point `t`. -/
def bodyPre2 (c : Dev nD) (t : Fin cfg2.N) : sProp 𝕄 :=
  iprop((dat2 V2 O S c).Φ t.castSucc ∗ (dat2 V2 O S c).owesAt none t.castSucc
    ∗ (∃ d, owns (c : Thread nD τ) (st2_0 t) fullShare ((dat2 V2 O S c).before 0 t d))
    ∗ (∃ d, owns (c : Thread nD τ) (st2_1 t) fullShare ((dat2 V2 O S c).before 1 t d))
    ∗ (∃ d, owns (c : Thread nD τ) (st2_2 t) fullShare ((dat2 V2 O S c).before 2 t d))
    ∗ (∃ d, owns (c : Thread nD τ) (st2_3 t) fullShare ((dat2 V2 O S c).before 3 t d))
    ∗ (∃ d, owns (c : Thread nD τ) (st2_4 t) fullShare ((dat2 V2 O S c).before 4 t d))
    ∗ (∃ d, owns (c : Thread nD τ) (st2_5 t) fullShare ((dat2 V2 O S c).before 5 t d))
    ∗ (∃ d, owns (c : Thread nD τ) (st2_6 t) fullShare ((dat2 V2 O S c).before 6 t d))
    ∗ (∃ d, owns (c : Thread nD τ) (st2_7 t) fullShare ((dat2 V2 O S c).before 7 t d))
    ∗ (∃ d, owns (c : Thread nD τ) (st2_8 t) fullShare ((dat2 V2 O S c).before 8 t d))
    ∗ (∃ d, owns (c : Thread nD τ) (st2_9 t) fullShare ((dat2 V2 O S c).before 9 t d)))

/-- What it returns. -/
def bodyPost2 (c : Dev nD) (t : Fin cfg2.N) : sProp 𝕄 :=
  iprop((dat2 V2 O S c).Φ t.succ ∗ (dat2 V2 O S c).owesAt none t.succ
    ∗ (dat2 V2 O S c).leavesExact 0 t
    ∗ (dat2 V2 O S c).leavesExact 1 t
    ∗ (dat2 V2 O S c).leavesExact 2 t
    ∗ (dat2 V2 O S c).leavesExact 3 t
    ∗ (dat2 V2 O S c).leavesExact 4 t
    ∗ (dat2 V2 O S c).leavesExact 5 t
    ∗ (dat2 V2 O S c).leavesExact 6 t
    ∗ (dat2 V2 O S c).leavesExact 7 t
    ∗ (dat2 V2 O S c).leavesExact 8 t
    ∗ (dat2 V2 O S c).leavesExact 9 t)

theorem leaves2_0 (c : Dev nD) (t : Fin cfg2.N) : ((dat2 V2 O S c).leavesExact 0 t : sProp 𝕄) = owns (c : Thread nD τ) (st2_0 t) fullShare (blk2 V2 c 0 t) := by
  unfold Dat.leavesExact; rw [show cfg2.idle 0 (cfg2.grid.coords t) = false from rfl, after2_0]
theorem leaves2_1 (c : Dev nD) (t : Fin cfg2.N) : ((dat2 V2 O S c).leavesExact 1 t : sProp 𝕄) = owns (c : Thread nD τ) (st2_1 t) fullShare (blk2 V2 c 1 t) := by
  unfold Dat.leavesExact; rw [show cfg2.idle 1 (cfg2.grid.coords t) = false from rfl, after2_1]
theorem leaves2_2 (c : Dev nD) (t : Fin cfg2.N) : ((dat2 V2 O S c).leavesExact 2 t : sProp 𝕄) = owns (c : Thread nD τ) (st2_2 t) fullShare (blk2 V2 c 2 t) := by
  unfold Dat.leavesExact; rw [show cfg2.idle 2 (cfg2.grid.coords t) = false from rfl, after2_2]
theorem leaves2_3 (c : Dev nD) (t : Fin cfg2.N) : ((dat2 V2 O S c).leavesExact 3 t : sProp 𝕄) = owns (c : Thread nD τ) (st2_3 t) fullShare (blk2 V2 c 3 t) := by
  unfold Dat.leavesExact; rw [show cfg2.idle 3 (cfg2.grid.coords t) = false from rfl, after2_3]
theorem leaves2_4 (c : Dev nD) (t : Fin cfg2.N) : ((dat2 V2 O S c).leavesExact 4 t : sProp 𝕄) = owns (c : Thread nD τ) (st2_4 t) fullShare (blk2 V2 c 4 t) := by
  unfold Dat.leavesExact; rw [show cfg2.idle 4 (cfg2.grid.coords t) = false from rfl, after2_4]
theorem leaves2_5 (c : Dev nD) (t : Fin cfg2.N) : ((dat2 V2 O S c).leavesExact 5 t : sProp 𝕄) = owns (c : Thread nD τ) (st2_5 t) fullShare (blk2 V2 c 5 t) := by
  unfold Dat.leavesExact; rw [show cfg2.idle 5 (cfg2.grid.coords t) = false from rfl, after2_5]
theorem leaves2_6 (c : Dev nD) (t : Fin cfg2.N) : ((dat2 V2 O S c).leavesExact 6 t : sProp 𝕄) = owns (c : Thread nD τ) (st2_6 t) fullShare (blk2 V2 c 6 t) := by
  unfold Dat.leavesExact; rw [show cfg2.idle 6 (cfg2.grid.coords t) = false from rfl, after2_6]
theorem leaves2_7 (c : Dev nD) (t : Fin cfg2.N) : ((dat2 V2 O S c).leavesExact 7 t : sProp 𝕄) = owns (c : Thread nD τ) (st2_7 t) fullShare (blk2 V2 c 7 t) := by
  unfold Dat.leavesExact; rw [show cfg2.idle 7 (cfg2.grid.coords t) = false from rfl, after2_7]
theorem leaves2_8 (c : Dev nD) (t : Fin cfg2.N) : ((dat2 V2 O S c).leavesExact 8 t : sProp 𝕄) = owns (c : Thread nD τ) (st2_8 t) fullShare (blk2 V2 c 8 t) := by
  unfold Dat.leavesExact; rw [show cfg2.idle 8 (cfg2.grid.coords t) = false from rfl, after2_8]
theorem leaves2_9 (c : Dev nD) (t : Fin cfg2.N) (h : k2_cond2 (grid2.coords t) = 1#1) : ((dat2 V2 O S c).leavesExact 9 t : sProp 𝕄) = owns (c : Thread nD τ) (st2_9 t) fullShare (expAcc V2 c 64) := by
  unfold Dat.leavesExact; rw [show cfg2.idle 9 (cfg2.grid.coords t) = false by show (!(k2_cond2 (grid2.coords t) == 1#1)) = false; rw [h]; rfl, after2_9]
theorem leaves2_9_idle (c : Dev nD) (t : Fin cfg2.N) (h : ¬k2_cond2 (grid2.coords t) = 1#1) :
    ((dat2 V2 O S c).leavesExact 9 t : sProp 𝕄) = iprop(∃ d, owns (c : Thread nD τ) (st2_9 t) fullShare ((dat2 V2 O S c).before 9 t d)) :=
  (dat2 V2 O S c).leavesExact_idle 9 t (by show (!(k2_cond2 (grid2.coords t) == 1#1)) = true; simp [h])
    (by rw [← Bool.not_eq_true, flush2_9]; exact fun h' => h ((k2_cond2_iff t).mpr h'))

/-- The step at point `t` from the accumulator before it. -/
theorem expAcc_step (c : Dev nD) (t : Fin cfg2.N) (n : ℕ) (hn : t.val = n) :
    expertStep (grid2.coords t) (expW V2 c) (expAcc V2 c n) (blk2 V2 c 0 t) (blk2 V2 c 2 t) (blk2 V2 c 3 t) (blk2 V2 c 4 t) (blk2 V2 c 5 t) (blk2 V2 c 6 t) (blk2 V2 c 7 t) = expAcc V2 c (n + 1) := by
  subst hn
  conv_rhs => unfold expAcc
  rw [ptE_val]

set_option maxHeartbeats 3200000 in
/-- The body at a point. -/
theorem sound_body2 (c : Dev nD) (t : Fin cfg2.N) :
    bodyPre2 V2 O S c t ⊢ wp frame (wpE (defs₀ (F := F)) Variants.none c none) Set.univ (bodyAt2 t) (fun _ => bodyPost2 V2 O S c t) := by
  unfold bodyPre2 bodyPost2 bodyAt2
  simp only [before2_0, before2_1, before2_2, before2_3, before2_4, before2_5, before2_6, before2_7, before2_8, leaves2_0, leaves2_1, leaves2_2, leaves2_3, leaves2_4, leaves2_5, leaves2_6, leaves2_7, leaves2_8]
  rw [show (dat2 V2 O S c).owesAt none t.succ = (dat2 V2 O S c).owesAt none t.castSucc from rfl,
    show (dat2 V2 O S c).Φ t.castSucc = expInv V2 c t.val from rfl, show (dat2 V2 O S c).Φ t.succ = expInv V2 c (t.val + 1) from rfl]
  have hlt : t.val < 64 := Nat.lt_of_lt_of_eq t.isLt N_2
  by_cases h0 : t.val = 0
  · have c0 : expFirst (grid2.coords t) := (expFirst_iff t).mpr (by omega)
    have c2 : ¬k2_cond2 (grid2.coords t) = 1#1 := fun h => absurd ((k2_cond2_iff t).mp h) (by omega)
    have ht : t = ptE 0 := Fin.ext h0
    rw [leaves2_9_idle V2 O S c t c2, h0, show expInv V2 c 0 = Pipeline.scopedRest spec2 c from rfl,
      show expInv V2 c (0 + 1) = iprop(owns (c : Thread nD τ) (Memref.whole cc2_scratch0) fullShare (expAcc V2 c (0 + 1)) ∗ owns (c : Thread nD τ) (Memref.whole cc2_scratch1) fullShare (expW V2 c) ∗ Pipeline.scopedRestBut spec2 c [cc2_scratch0, cc2_scratch1]) from rfl, scopedRest2_split]
    rw [← expAcc_step V2 c t 0 h0, show expAcc V2 c 0 = k2_pay4 (blk2 V2 c 1 t) (blk2 V2 c 8 t) by rw [ht]; rfl, show expW V2 c = k2_pay3 (blk2 V2 c 1 t) by rw [ht]; rfl]
    refine BIBase.Entails.trans ?_ ((expert_first c (grid2.coords t) _ _ _ _ _ _ _ _ _ _ _ _ _ _ _ _ _ _ _ _ _ _ _ _ c0 c2 (blk2 V2 c 0 t) (blk2 V2 c 1 t) (blk2 V2 c 2 t) (blk2 V2 c 3 t) (blk2 V2 c 4 t) (blk2 V2 c 5 t) (blk2 V2 c 6 t) (blk2 V2 c 7 t) (blk2 V2 c 8 t) Set.univ
      iprop((dat2 V2 O S c).owesAt none t.castSucc ∗ Pipeline.scopedRestBut spec2 c [cc2_scratch0, cc2_scratch1] ∗ (∃ d, owns (c : Thread nD τ) (st2_9 t) fullShare ((dat2 V2 O S c).before 9 t d)))).trans (wp_mono frame _ _ fun _ => ?_))
    · iintro ⟨⟨HS, HT, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iframe H0 H1 H2 H3 H4 H5 H6 H7 H8 HS HT HO HR
      iexists d9; iexact H9
    · iintro ⟨H0, H1, H2, H3, H4, H5, H6, H7, H8, HS, HT, HO, HR, H9⟩
      iframe HS HT HR HO H0 H1 H2 H3 H4 H5 H6 H7 H8 H9
  · obtain ⟨n, hn⟩ : ∃ n, t.val = n + 1 := ⟨t.val - 1, by omega⟩
    have c0 : ¬expFirst (grid2.coords t) := fun h => absurd ((expFirst_iff t).mp h) (by omega)
    rw [show expInv V2 c t.val = iprop(owns (c : Thread nD τ) (Memref.whole cc2_scratch0) fullShare (expAcc V2 c (n + 1)) ∗ owns (c : Thread nD τ) (Memref.whole cc2_scratch1) fullShare (expW V2 c) ∗ Pipeline.scopedRestBut spec2 c [cc2_scratch0, cc2_scratch1]) by rw [hn]; rfl,
      show expInv V2 c (t.val + 1) = iprop(owns (c : Thread nD τ) (Memref.whole cc2_scratch0) fullShare (expAcc V2 c (n + 1 + 1)) ∗ owns (c : Thread nD τ) (Memref.whole cc2_scratch1) fullShare (expW V2 c) ∗ Pipeline.scopedRestBut spec2 c [cc2_scratch0, cc2_scratch1]) by rw [hn]; rfl, ← expAcc_step V2 c t (n + 1) hn]
    by_cases h2 : t.val = 63
    · have c2 : k2_cond2 (grid2.coords t) = 1#1 := (k2_cond2_iff t).mpr (by omega)
      rw [leaves2_9 V2 O S c t c2, show expAcc V2 c 64 = expAcc V2 c (n + 1 + 1) by congr 1; omega, ← expAcc_step V2 c t (n + 1) hn]
      refine BIBase.Entails.trans ?_ ((expert_last c (grid2.coords t) _ _ _ _ _ _ _ _ _ _ _ _ _ _ _ _ _ _ _ _ _ _ _ _ c0 c2 (blk2 V2 c 0 t) (blk2 V2 c 1 t) (blk2 V2 c 2 t) (blk2 V2 c 3 t) (blk2 V2 c 4 t) (blk2 V2 c 5 t) (blk2 V2 c 6 t) (blk2 V2 c 7 t) (blk2 V2 c 8 t) (expAcc V2 c (n + 1)) (expW V2 c) Set.univ
        iprop(owns (c : Thread nD τ) (st2_1 t) fullShare (blk2 V2 c 1 t) ∗ owns (c : Thread nD τ) (st2_8 t) fullShare (blk2 V2 c 8 t) ∗ (dat2 V2 O S c).owesAt none t.castSucc ∗ Pipeline.scopedRestBut spec2 c [cc2_scratch0, cc2_scratch1])).trans (wp_mono frame _ _ fun _ => ?_))
      · iintro ⟨⟨HS, HT, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iframe H0 H2 H3 H4 H5 H6 H7 HS HT H1 H8 HO HR
        iexists _; iexact H9
      · iintro ⟨H0, H2, H3, H4, H5, H6, H7, H9, HS, HT, H1, H8, HO, HR⟩
        iframe HS HT HR HO H0 H1 H2 H3 H4 H5 H6 H7 H8 H9
    · have c2 : ¬k2_cond2 (grid2.coords t) = 1#1 := fun h => absurd ((k2_cond2_iff t).mp h) (by omega)
      rw [leaves2_9_idle V2 O S c t c2]
      refine BIBase.Entails.trans ?_ ((expert_mid c (grid2.coords t) _ _ _ _ _ _ _ _ _ _ _ _ _ _ _ _ _ _ _ _ _ _ _ _ c0 c2 (blk2 V2 c 0 t) (blk2 V2 c 1 t) (blk2 V2 c 2 t) (blk2 V2 c 3 t) (blk2 V2 c 4 t) (blk2 V2 c 5 t) (blk2 V2 c 6 t) (blk2 V2 c 7 t) (blk2 V2 c 8 t) (expAcc V2 c (n + 1)) (expW V2 c) Set.univ
        iprop(owns (c : Thread nD τ) (st2_1 t) fullShare (blk2 V2 c 1 t) ∗ owns (c : Thread nD τ) (st2_8 t) fullShare (blk2 V2 c 8 t) ∗ (dat2 V2 O S c).owesAt none t.castSucc ∗ Pipeline.scopedRestBut spec2 c [cc2_scratch0, cc2_scratch1] ∗ (∃ d, owns (c : Thread nD τ) (st2_9 t) fullShare ((dat2 V2 O S c).before 9 t d)))).trans (wp_mono frame _ _ fun _ => ?_))
      · iintro ⟨⟨HS, HT, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iframe H0 H2 H3 H4 H5 H6 H7 HS HT H1 H8 HO HR
        iexists d9; iexact H9
      · iintro ⟨H0, H2, H3, H4, H5, H6, H7, HS, HT, H1, H8, HO, HR, H9⟩
        iframe HS HT HR HO H0 H1 H2 H3 H4 H5 H6 H7 H8 H9

/-- The body table's row at point `t`'s slots is the body as `bodyAt2` spells it. -/
theorem row2 (t : Fin cfg2.N) : defs₀ (F := F) .tc cfg2.body (cfg2.bodyArgs t (cfg2.slots t)) = bodyAt2 t := by
  rfl

/-- The second call's body keeps to its data at every point. -/
theorem obligation2 (c : Dev nD) : BodyObligation (dat2 V2 O S c) (defs₀ (F := F)) Variants.none none Set.univ := fun t => by
  rw [bigSep_W2, bigSep_W2, row2]
  exact triple_restated (sound_body2 V2 O S c t) rfl .rfl fun _ => .rfl

end Cert.Proof.Moe

end
-- ==== Proof.RouterTile.lean ====
/-
  One tile of the SparseCore call.
-/
module

public import proofs.«01_k».proof.Proof.RouterVals

@[expose] public section

noncomputable section

namespace Cert.Proof.Moe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid1.Coords)

set_option maxRecDepth 100000 in
set_option maxHeartbeats 0 in
theorem tile_run (h : k1_cond1 L = 1#1) (fin : Buf (Elt F) (lgLoc d))
    (fs : Buf (Elt F) ((V d (cV L) (jV L)).loc cc1_scratch0)) (fw : Buf (Elt F) ((V d (cV L) (jV L)).loc cc1_scratch1))
    (fo : Buf (Elt F) (woLoc d))
    (O : CellTallies nD τ sig (HIx 1)) (W : Waits sig (HIx 1)) (hO : ∀ g, O g none = 0) :
    iprop(levAts (K (F := F)).L (K (F := F)).lev
        ∗ (lgLoc d ↦[rowSet (L 0).val (L 1).val]{fullShare} fin)
        ∗ (woLoc d ↦[rowSet (L 0).val (L 1).val]{fullShare} fo)
        ∗ ((V d (cV L) (jV L)).loc cc1_scratch0 ↦{fullShare} fs)
        ∗ ((V d (cV L) (jV L)).loc cc1_scratch1 ↦{fullShare} fw)
        ∗ semVal (cAcell d (cV L) (jV L)) 0 ∗ semVal (cBcell d (cV L) (jV L)) 0
        ∗ owes (V d (cV L) (jV L)) O W)
      ⊢ (wp frame (wpE (defs₀ (F := F)) 𝒱₀ (V d (cV L) (jV L)) none) Set.univ
          (cc1__router_sc_body L (Memref.whole Cert.KernelIdeal.main_v4_1_scv : Memref Cert.KernelIdeal.sig Kind.scVector Space.hbm Cert.KernelIdeal.S8x64x16 EltTy.f32) (Memref.isWhole_whole _) (Memref.whole Cert.KernelIdeal.main_v5_scv : Memref Cert.KernelIdeal.sig Kind.scVector Space.hbm Cert.KernelIdeal.S8x64x16 EltTy.f32) (Memref.isWhole_whole _)
            (Memref.whole Cert.KernelIdeal.cc1_scratch0 : Memref Cert.KernelIdeal.sig Kind.scVector Space.vmem Cert.KernelIdeal.S64x16 EltTy.f32) (Memref.isWhole_whole _) (Memref.whole Cert.KernelIdeal.cc1_scratch1 : Memref Cert.KernelIdeal.sig Kind.scVector Space.vmem Cert.KernelIdeal.S64x16 EltTy.f32) (Memref.isWhole_whole _) cc1_scoped0 cc1_scoped1)
          fun _ => iprop((lgLoc d ↦[rowSet (L 0).val (L 1).val]{fullShare} fin)
        ∗ (woLoc d ↦[rowSet (L 0).val (L 1).val]{fullShare} (routed fin : Buf (Elt F) (woLoc d)))
        ∗ (∃ fs, (V d (cV L) (jV L)).loc cc1_scratch0 ↦{fullShare} fs)
        ∗ (∃ fw, (V d (cV L) (jV L)).loc cc1_scratch1 ↦{fullShare} fw)
        ∗ semVal (cAcell d (cV L) (jV L)) 0 ∗ semVal (cBcell d (cV L) (jV L)) 0
            ∗ ∃ W', ⌜∀ p ∈ W', p ∈ W ∨ p.2 = none⌝ ∗ owes (V d (cV L) (jV L)) O W') : sProp 𝕄) := by
  simp only [cc1__router_sc_body_eq_skeleton]; unfold cc1__router_sc_body_skel
  rw [k1_part46_eq_skeleton]; simp only [k1_part46_skel]
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton]
  simp only [k1_part1_skel, k1_part2_skel, k1_part3_skel, k1_part4_skel, k1_part5_skel, k1_part6_skel, k1_part7_skel, k1_part8_skel, k1_part9_skel, k1_part10_skel, k1_part11_skel, k1_part12_skel, k1_part13_skel, k1_part14_skel, k1_part15_skel, k1_part16_skel, k1_part17_skel, k1_part18_skel, k1_part19_skel, k1_part20_skel, k1_part21_skel, k1_part22_skel, k1_part23_skel, k1_part24_skel, k1_part25_skel, k1_part26_skel, k1_part27_skel, k1_part28_skel, k1_part29_skel, k1_part30_skel, k1_part31_skel, k1_part32_skel, k1_part33_skel, k1_part34_skel, k1_part35_skel, k1_part36_skel, k1_part37_skel, k1_part38_skel, k1_part39_skel, k1_part40_skel, k1_part41_skel, k1_part42_skel, k1_part43_skel, k1_part44_skel, k1_part45_skel]
  iintro ⟨#Hlv, Hi, Ho, Hs, Hw, HsemA, HsemB, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_lgRowK (F := F) d L h _).symm) $$ Hi
  ihave Ho' := (Entails.of_eq (pts_woRowK (F := F) d L h _).symm) $$ Ho
  ihave Hs' := (Entails.of_eq (pts_inV (F := F) d L _).symm) $$ Hs
  ihave Hw' := (Entails.of_eq (pts_wV (F := F) d L _).symm) $$ Hw
  sl_exec (disch := sl_exact h)
  have hp : tile_run.sl.Hw'_64 d L h fin fs fw = List.ofFn fun e : Fin 64 => (⟨rowRect e.rev,
      (shapeCast S1x16 (wrow (rowsOf (View.write (Elt F) (Memref.whole cc1_scratch0).view fs (tile_run.sl.dma0 d L h fin) Finset.univ)) e.rev.val)
        shapeCasts_S16_S1x16 : FVec F S1x16 .f32)⟩ : View.Piece (Elt F) S64x16 .f32) := by
    delta tile_run.sl.Hw'_64 tile_run.sl.v10 tile_run.sl.v444 tile_run.sl.v6 tile_run.sl.v17 tile_run.sl.v24 tile_run.sl.v31 tile_run.sl.v38
      tile_run.sl.v45 tile_run.sl.v52 tile_run.sl.v59 tile_run.sl.v66 tile_run.sl.v73 tile_run.sl.v80 tile_run.sl.v87 tile_run.sl.v94
      tile_run.sl.v101 tile_run.sl.v108 tile_run.sl.v115 tile_run.sl.v122 tile_run.sl.v129 tile_run.sl.v136 tile_run.sl.v143 tile_run.sl.v150
      tile_run.sl.v157 tile_run.sl.v164 tile_run.sl.v171 tile_run.sl.v178 tile_run.sl.v185 tile_run.sl.v192 tile_run.sl.v199 tile_run.sl.v206
      tile_run.sl.v213 tile_run.sl.v220 tile_run.sl.v227 tile_run.sl.v234 tile_run.sl.v241 tile_run.sl.v248 tile_run.sl.v255 tile_run.sl.v262
      tile_run.sl.v269 tile_run.sl.v276 tile_run.sl.v283 tile_run.sl.v290 tile_run.sl.v297 tile_run.sl.v304 tile_run.sl.v311 tile_run.sl.v318
      tile_run.sl.v325 tile_run.sl.v332 tile_run.sl.v339 tile_run.sl.v346 tile_run.sl.v353 tile_run.sl.v360 tile_run.sl.v367 tile_run.sl.v374
      tile_run.sl.v381 tile_run.sl.v388 tile_run.sl.v395 tile_run.sl.v402 tile_run.sl.v409 tile_run.sl.v416 tile_run.sl.v423 tile_run.sl.v430
      tile_run.sl.v437
    simp only [
      k1_pay1, k1_pay2, k1_pay3, k1_pay4, k1_pay5, k1_pay6, k1_pay7, k1_pay8, k1_pay9, k1_pay10, k1_pay11, k1_pay12, k1_pay13, k1_pay14, k1_pay15,
      k1_pay16, k1_pay17, k1_pay18, k1_pay19, k1_pay20, k1_pay21, k1_pay22, k1_pay23, k1_pay24, k1_pay25, k1_pay26, k1_pay27, k1_pay28, k1_pay29,
      k1_pay30, k1_pay31, k1_pay32, k1_pay33, k1_pay34, k1_pay35, k1_pay36, k1_pay37, k1_pay38, k1_pay39, k1_pay40, k1_pay41, k1_pay42, k1_pay43,
      k1_pay44, k1_pay45, k1_pay46, k1_pay47, k1_pay48, k1_pay49, k1_pay50, k1_pay51, k1_pay52, k1_pay53, k1_pay54, k1_pay55, k1_pay56, k1_pay57,
      k1_pay58, k1_pay59, k1_pay60, k1_pay61, k1_pay62, k1_pay63, k1_pay64, k1_pay65, k1_pay66, k1_pay67, k1_pay68, k1_pay69, k1_pay70, k1_pay71,
      k1_pay72, k1_pay73, k1_pay74, k1_pay75, k1_pay76, k1_pay77, k1_pay78, k1_pay79, k1_pay80, k1_pay81, k1_pay82, k1_pay83, k1_pay84, k1_pay85,
      k1_pay86, k1_pay87, k1_pay88, k1_pay89, k1_pay90, k1_pay91, k1_pay92, k1_pay93, k1_pay94, k1_pay95, k1_pay96, k1_pay97, k1_pay98, k1_pay99,
      k1_pay100, k1_pay101, k1_pay102, k1_pay103, k1_pay104, k1_pay105, k1_pay106, k1_pay107, k1_pay108, k1_pay109, k1_pay110, k1_pay111, k1_pay112,
      k1_pay113, k1_pay114, k1_pay115, k1_pay116, k1_pay117, k1_pay118, k1_pay119, k1_pay120, k1_pay121, k1_pay122, k1_pay123, k1_pay124, k1_pay125,
      k1_pay126, k1_pay127, k1_pay128, k1_pay129, k1_pay130, k1_pay131, k1_pay132, k1_pay133, k1_pay134, k1_pay135, k1_pay136, k1_pay137, k1_pay138,
      k1_pay139, k1_pay140, k1_pay141, k1_pay142, k1_pay143, k1_pay144, k1_pay145, k1_pay146, k1_pay147, k1_pay148, k1_pay149, k1_pay150, k1_pay151,
      k1_pay152, k1_pay153, k1_pay154, k1_pay155, k1_pay156, k1_pay157, k1_pay158, k1_pay159, k1_pay160, k1_pay161, k1_pay162, k1_pay163, k1_pay164,
      k1_pay165, k1_pay166, k1_pay167, k1_pay168, k1_pay169, k1_pay170, k1_pay171, k1_pay172, k1_pay173, k1_pay174, k1_pay175, k1_pay176, k1_pay177,
      k1_pay178, k1_pay179, k1_pay180, k1_pay181, k1_pay182, k1_pay183, k1_pay184, k1_pay185, k1_pay186, k1_pay187, k1_pay188, k1_pay189, k1_pay190,
      k1_pay191, k1_pay192, k1_pay193, k1_pay194, k1_pay195, k1_pay196, k1_pay197, k1_pay198, k1_pay199, k1_pay200, k1_pay201, k1_pay202, k1_pay203,
      k1_pay204, k1_pay205, k1_pay206, k1_pay207, k1_pay208, k1_pay209, k1_pay210, k1_pay211, k1_pay212, k1_pay213, k1_pay214, k1_pay215, k1_pay216,
      k1_pay217, k1_pay218, k1_pay219, k1_pay220, k1_pay221, k1_pay222, k1_pay223, k1_pay224, k1_pay225, k1_pay226, k1_pay227, k1_pay228, k1_pay229,
      k1_pay230, k1_pay231, k1_pay232, k1_pay233, k1_pay234, k1_pay235, k1_pay236, k1_pay237, k1_pay238, k1_pay239, k1_pay240, k1_pay241, k1_pay242,
      k1_pay243, k1_pay244, k1_pay245, k1_pay246, k1_pay247, k1_pay248, k1_pay249, k1_pay250, k1_pay251, k1_pay252, k1_pay253, k1_pay254, k1_pay255,
      k1_pay256, k1_pay257, k1_pay258, k1_pay259, k1_pay260, k1_pay261, k1_pay262, k1_pay263, k1_pay264, k1_pay265, k1_pay266, k1_pay267, k1_pay268,
      k1_pay269, k1_pay270, k1_pay271, k1_pay272, k1_pay273, k1_pay274, k1_pay275, k1_pay276, k1_pay277, k1_pay278, k1_pay279, k1_pay280, k1_pay281,
      k1_pay282, k1_pay283, k1_pay284, k1_pay285, k1_pay286, k1_pay287, k1_pay288, k1_pay289, k1_pay290, k1_pay291, k1_pay292, k1_pay293, k1_pay294,
      k1_pay295, k1_pay296, k1_pay297, k1_pay298, k1_pay299, k1_pay300, k1_pay301, k1_pay302, k1_pay303, k1_pay304, k1_pay305, k1_pay306, k1_pay307,
      k1_pay308, k1_pay309, k1_pay310, k1_pay311, k1_pay312, k1_pay313, k1_pay314, k1_pay315, k1_pay316, k1_pay317, k1_pay318, k1_pay319, k1_pay320,
      k1_pay321, k1_pay322, k1_pay323, k1_pay324, k1_pay325, k1_pay326, k1_pay327, k1_pay328, k1_pay329, k1_pay330, k1_pay331, k1_pay332, k1_pay333,
      k1_pay334, k1_pay335, k1_pay336, k1_pay337, k1_pay338, k1_pay339, k1_pay340, k1_pay341, k1_pay342, k1_pay343, k1_pay344, k1_pay345, k1_pay346,
      k1_pay347, k1_pay348, k1_pay349, k1_pay350, k1_pay351, k1_pay352, k1_pay353, k1_pay354, k1_pay355, k1_pay356, k1_pay357, k1_pay358, k1_pay359,
      k1_pay360, k1_pay361, k1_pay362, k1_pay363, k1_pay364, k1_pay365, k1_pay366, k1_pay367, k1_pay368, k1_pay369, k1_pay370, k1_pay371, k1_pay372,
      k1_pay373, k1_pay374, k1_pay375, k1_pay376, k1_pay377, k1_pay378, k1_pay379, k1_pay380, k1_pay381, k1_pay382, k1_pay383, k1_pay384, k1_pay385,
      k1_pay386, k1_pay387, k1_pay388, k1_pay389, k1_pay390, k1_pay391, k1_pay392, k1_pay393, k1_pay394, k1_pay395, k1_pay396, k1_pay397, k1_pay398,
      k1_pay399, k1_pay400, k1_pay401, k1_pay402, k1_pay403, k1_pay404, k1_pay405, k1_pay406, k1_pay407, k1_pay408, k1_pay409, k1_pay410, k1_pay411,
      k1_pay412, k1_pay413, k1_pay414, k1_pay415, k1_pay416, k1_pay417, k1_pay418, k1_pay419, k1_pay420, k1_pay421, k1_pay422, k1_pay423, k1_pay424,
      k1_pay425, k1_pay426, k1_pay427, k1_pay428, k1_pay429, k1_pay430, k1_pay431, k1_pay432, k1_pay433, k1_pay434, k1_pay435, k1_pay436, k1_pay437,
      k1_pay438, k1_pay439, k1_pay440, k1_pay441, k1_pay442, k1_pay443, k1_pay444, k1_pay445, k1_pay446, k1_pay447, k1_pay448, k1_pay449, k1_pay450,
      k1_pay451, k1_pay452, k1_pay453, k1_pay454, k1_pay455, k1_pay456, k1_pay457, k1_pay458, k1_pay459, k1_pay460, k1_pay461, k1_pay462, k1_pay463,
      k1_pay464, k1_pay465, k1_pay466, k1_pay467, k1_pay468, k1_pay469, k1_pay470, k1_pay471, k1_pay472, k1_pay473, k1_pay474, k1_pay475, k1_pay476,
      k1_pay477, k1_pay478, k1_pay479, k1_pay480, k1_pay481, k1_pay482, k1_pay483, k1_pay484, k1_pay485, k1_pay486, k1_pay487, k1_pay488, k1_pay489,
      k1_pay490, k1_pay491, k1_pay492, k1_pay493, k1_pay494, k1_pay495, k1_pay496, k1_pay497, k1_pay498, k1_pay499, k1_pay500, k1_pay501, k1_pay502,
      k1_pay503, k1_pay504, k1_pay505, k1_pay506, k1_pay507, k1_pay508, k1_pay509, k1_pay510, k1_pay511, k1_pay512, k1_pay513, k1_pay514, k1_pay515,
      k1_pay516,
      rowsOf_eq, firstV_one, firstI_one, firstV_step, firstI_step, masked_eq, secondV_one, secondI_one, secondV_step, secondI_step,
      Nat.reduceAdd, gate1_eq, gate2_eq, weigh_eq]
    rfl
  have hv : ∀ x ∈ rowSet (L 0).val (L 1).val,
      (woRowK L h).view.writes (Elt F) fo [⟨Rect.whole S64x16, tile_run.sl.dma256 d L h fin fs fw⟩] x = routed fin x := by
    intro x hx
    refine written_eq L h fin fo fw (tile_run.sl.Hw'_64 d L h fin fs fw) ?_ x hx
    rw [hp]
    rw [show View.write (Elt F) (Memref.whole cc1_scratch0).view fs (tile_run.sl.dma0 d L h fin) Finset.univ
      = View.read (Elt F) (lgRowK L h).view fin from View.write_whole_univ _ _ _]
  sl_step
  isplitl [Hi']
  · iapply (Entails.of_eq (pts_lgRowK (F := F) d L h _)) $$ Hi'
  isplitl [Ho']
  · ihave Ho := (Entails.of_eq (pts_woRowK (F := F) d L h _)) $$ Ho'
    iapply (Entails.of_eq (pointsTo_congr hv)) $$ Ho
  isplitl [Hs']
  · iexists _
    iapply (Entails.of_eq (pts_inV (F := F) d L _)) $$ Hs'
  isplitl [Hw']
  · iexists _
    iapply (Entails.of_eq (pts_wV (F := F) d L _)) $$ Hw'
  isplitl [HsemA]
  · iexact HsemA
  isplitl [HsemB]
  · iexact HsemB
  iexists _
  isplitr
  rotate_left
  · iexact HO
  · ipureintro
    intro p hp
    rcases Finset.mem_insert.mp hp with rfl | hp
    · exact Or.inr rfl
    rcases Finset.mem_insert.mp hp with rfl | hp
    · exact Or.inr rfl
    · exact Or.inl hp

end Cert.Proof.Moe

end
-- ==== Proof.RouterLaunch.lean ====
/-
  The SparseCore call: the rows go out to its tiles and come back holding the routing weights.
-/
module

public import proofs.«01_k».proof.Proof.RouterTile

@[expose] public section

set_option maxRecDepth 16384

noncomputable section

namespace Cert.Proof.Moe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The rows that SparseCore `c`'s tiles work on. -/
def coreSet (c : ℕ) : Finset S8x64x16.Idx := Finset.univ.filter fun x => (x 0).val % 2 = c

theorem coreSet_eq (c : Fin 2) : (Finset.univ : Finset (Fin 16)).biUnion (fun i => rowSet c.val i.val) = coreSet c.val := by
  ext x
  have h8 : (x 0).val < 8 := (x 0).isLt
  simp only [Finset.mem_biUnion, Finset.mem_univ, true_and, rowSet, coreSet, Finset.mem_filter]
  refine ⟨fun ⟨i, hi⟩ => by omega, fun h => ⟨⟨(x 0).val / 2, by omega⟩, by show _ = 2 * ((x 0).val / 2) + c.val; omega⟩⟩

theorem rowSet_disjoint (c : ℕ) : ∀ i ∈ (Finset.univ : Finset (Fin 16)), ∀ j ∈ (Finset.univ : Finset (Fin 16)), i ≠ j → Disjoint (rowSet c i.val) (rowSet c j.val) :=
  fun i _ j _ h => Finset.disjoint_left.mpr fun x hx hy => h (Fin.ext (by
    have a := (Finset.mem_filter.mp hx).2
    have b := (Finset.mem_filter.mp hy).2
    omega))

theorem coreSet_cover : (Finset.univ : Finset (Fin 2)).biUnion (fun c => coreSet c.val) = Finset.univ := by
  ext x
  simp only [Finset.mem_biUnion, Finset.mem_univ, true_and, coreSet, Finset.mem_filter, iff_true]
  exact ⟨⟨(x 0).val % 2, Nat.mod_lt _ (by decide)⟩, rfl⟩

theorem coreSet_disjoint : ∀ i ∈ (Finset.univ : Finset (Fin 2)), ∀ j ∈ (Finset.univ : Finset (Fin 2)), i ≠ j → Disjoint (coreSet i.val) (coreSet j.val) :=
  fun i _ j _ h => Finset.disjoint_left.mpr fun x hx hy => h (Fin.ext (by
    have a := (Finset.mem_filter.mp hx).2
    have b := (Finset.mem_filter.mp hy).2
    omega))

/-- A tile that the kernel's condition leaves out has no row. -/
theorem inactive_rows : ∀ L : grid1.Coords, ¬k1_cond1 L = 1#1 → 8 ≤ 2 * (L 1).val + (L 0).val := by decide +kernel

theorem rowSet_inactive (c i : ℕ) (h : 8 ≤ 2 * i + c) : rowSet c i = ∅ :=
  Finset.filter_eq_empty_iff.mpr fun x _ => by
    have h8 : (x 0).val < 8 := (x 0).isLt
    omega

variable (LG : (d : Dev nD) → Buf (Elt F) (lgLoc d)) (FO : (d : Dev nD) → Buf (Elt F) (woLoc d))

abbrev lgPts (d : Dev nD) (I : Finset S8x64x16.Idx) : sProp 𝕄 := lgLoc d ↦[I]{fullShare} LG d
abbrev woPts (d : Dev nD) (I : Finset S8x64x16.Idx) : sProp 𝕄 := woLoc d ↦[I]{fullShare} FO d
abbrev wdPts (d : Dev nD) (I : Finset S8x64x16.Idx) : sProp 𝕄 := woLoc d ↦[I]{fullShare} (routed (LG d) : Buf (Elt F) (woLoc d))

/-- What the handshakes carry: to a core and on to a tile its rows of the logits and of the weights, and back the same rows,
    the weights now the routed ones. -/
def P : (K (F := F)).Pay (nD := nD) (Val := Elt F) (Name := ℕ) (U := UU) where
  st := fun q d c => match q with | 0 => iprop(lgPts LG d (coreSet c.val) ∗ woPts FO d (coreSet c.val))
  dn := fun q d c => match q with | 0 => iprop(lgPts LG d (coreSet c.val) ∗ wdPts LG d (coreSet c.val))
  go := fun q d c i => match q with | 0 => iprop(lgPts LG d (rowSet c.val i.val) ∗ woPts FO d (rowSet c.val i.val))
  td := fun q d c i => match q with | 0 => iprop(lgPts LG d (rowSet c.val i.val) ∗ wdPts LG d (rowSet c.val i.val))
  x := fun _ _ => iprop(emp)

instance P_storable : (P LG FO).IsStorable where
  st q d c := match q with
    | 0 => (inferInstance : BI.Storable (upEmb : UEmb _ 𝕄) iprop(lgPts LG d (coreSet c.val) ∗ woPts FO d (coreSet c.val)))
  dn q d c := match q with
    | 0 => (inferInstance : BI.Storable (upEmb : UEmb _ 𝕄) iprop(lgPts LG d (coreSet c.val) ∗ wdPts LG d (coreSet c.val)))
  go q d c i := match q with
    | 0 => (inferInstance : BI.Storable (upEmb : UEmb _ 𝕄) iprop(lgPts LG d (rowSet c.val i.val) ∗ woPts FO d (rowSet c.val i.val)))
  td q d c i := match q with
    | 0 => (inferInstance : BI.Storable (upEmb : UEmb _ 𝕄) iprop(lgPts LG d (rowSet c.val i.val) ∗ wdPts LG d (rowSet c.val i.val)))

section Tile

variable (d : Dev nD) (L : grid1.Coords)

/-- The two semaphores of the row's copies are among the tile's own. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩)]

/-- The two row buffers are among the tile's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The body of a tile that has no row: nothing. -/
theorem body_inactive (h : ¬k1_cond1 L = 1#1) :
    (cc1__router_sc_body L (Memref.whole Cert.KernelIdeal.main_v4_1_scv : Memref Cert.KernelIdeal.sig Kind.scVector Space.hbm Cert.KernelIdeal.S8x64x16 EltTy.f32) (Memref.isWhole_whole _) (Memref.whole Cert.KernelIdeal.main_v5_scv : Memref Cert.KernelIdeal.sig Kind.scVector Space.hbm Cert.KernelIdeal.S8x64x16 EltTy.f32) (Memref.isWhole_whole _)
      (Memref.whole Cert.KernelIdeal.cc1_scratch0 : Memref Cert.KernelIdeal.sig Kind.scVector Space.vmem Cert.KernelIdeal.S64x16 EltTy.f32) (Memref.isWhole_whole _) (Memref.whole Cert.KernelIdeal.cc1_scratch1 : Memref Cert.KernelIdeal.sig Kind.scVector Space.vmem Cert.KernelIdeal.S64x16 EltTy.f32) (Memref.isWhole_whole _) cc1_scoped0 cc1_scoped1 : Prog (TpuEff nD τ sig (Elt F) Λ₀ (.scVector (cV L) (jV L))) PUnit)
      = pure ⟨⟩ := by
  simp only [cc1__router_sc_body_eq_skeleton]; unfold cc1__router_sc_body_skel
  simp only [h, ↓reduceDIte]

/-- The task of one tile. -/
theorem tile_body (hF : (K (F := F)).Facts) (O : CellTallies nD τ sig (HIx 1)) (W : Waits sig (HIx 1)) (hO : ∀ g, O g none = 0) :
    iprop(levAts (K (F := F)).L (K (F := F)).lev ∗ emp
        ∗ (lgPts LG d (rowSet (L 0).val (L 1).val) ∗ woPts FO d (rowSet (L 0).val (L 1).val))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__router_sc_body L (Memref.whole Cert.KernelIdeal.main_v4_1_scv : Memref Cert.KernelIdeal.sig Kind.scVector Space.hbm Cert.KernelIdeal.S8x64x16 EltTy.f32) (Memref.isWhole_whole _) (Memref.whole Cert.KernelIdeal.main_v5_scv : Memref Cert.KernelIdeal.sig Kind.scVector Space.hbm Cert.KernelIdeal.S8x64x16 EltTy.f32) (Memref.isWhole_whole _)
            (Memref.whole Cert.KernelIdeal.cc1_scratch0 : Memref Cert.KernelIdeal.sig Kind.scVector Space.vmem Cert.KernelIdeal.S64x16 EltTy.f32) (Memref.isWhole_whole _) (Memref.whole Cert.KernelIdeal.cc1_scratch1 : Memref Cert.KernelIdeal.sig Kind.scVector Space.vmem Cert.KernelIdeal.S64x16 EltTy.f32) (Memref.isWhole_whole _) cc1_scoped0 cc1_scoped1)
          fun _ => iprop((lgPts LG d (rowSet (L 0).val (L 1).val) ∗ wdPts LG d (rowSet (L 0).val (L 1).val))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  by_cases h : k1_cond1 L = 1#1
  · rw [(K (F := F)).scopedBufs_V hF d (cV L) (jV L), SparseCore.Cfg.scopedSems0_V (Val := Elt F) d (cV L) (jV L), ownSems0_V, ownBufs_V]
    iintro ⟨Hlv, -, ⟨Hi, Ho⟩, ⟨⟨%fs, Hs⟩, ⟨%fw, Hw⟩, Hbufs⟩, ⟨HA, HB, Hsems⟩, HO⟩
    ihave Hrun := (tile_run d L h (LG d) fs fw (FO d) O W hO) $$ [Hlv Hi Ho Hs Hw HA HB HO]
    · iframe
    iapply (wp_wand_r frame _ _)
    isplitl [Hrun]; · iexact Hrun
    iintro %_ ⟨Hi, Ho, Hs, Hw, HA, HB, HO⟩
    iframe
  · have he := rowSet_inactive (L 0).val (L 1).val (inactive_rows L h)
    rw [body_inactive L h, wp_pure]
    rw [show wdPts LG d (rowSet (L 0).val (L 1).val) = woPts FO d (rowSet (L 0).val (L 1).val) from pointsTo_congr (by rw [he]; intro i hi; exact absurd hi (Finset.notMem_empty i))]
    iintro ⟨-, -, Hp, Hb, Hs, HO⟩
    imodintro
    iframe Hp Hb Hs
    iexists W; isplitr; · ipureintro; exact fun p hp => .inl hp
    iexact HO

/-- A tile's coordinates. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__router_sc_body (coordsV c s) (Memref.whole Cert.KernelIdeal.main_v4_1_scv : Memref Cert.KernelIdeal.sig Kind.scVector Space.hbm Cert.KernelIdeal.S8x64x16 EltTy.f32) (Memref.isWhole_whole _) (Memref.whole Cert.KernelIdeal.main_v5_scv : Memref Cert.KernelIdeal.sig Kind.scVector Space.hbm Cert.KernelIdeal.S8x64x16 EltTy.f32) (Memref.isWhole_whole _)
          (Memref.whole Cert.KernelIdeal.cc1_scratch0 : Memref Cert.KernelIdeal.sig Kind.scVector Space.vmem Cert.KernelIdeal.S64x16 EltTy.f32) (Memref.isWhole_whole _) (Memref.whole Cert.KernelIdeal.cc1_scratch1 : Memref Cert.KernelIdeal.sig Kind.scVector Space.vmem Cert.KernelIdeal.S64x16 EltTy.f32) (Memref.isWhole_whole _) cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

theorem tileObl (hF : (K (F := F)).Facts) : (K (F := F)).TileObl (D (F := F)) 𝒱 (P LG FO) v₀ 0 := by
  intro d c i O W hO _ _
  simp only [show (P LG FO).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body LG FO d (coordsV ⟨_, hci.1⟩ ⟨_, hci.2⟩) hF O W hO).trans (wp_mono frame _ _ fun _ => obl_post)

end Tile

/-- A core's rows of an array are its tiles' rows. -/
theorem lgPts_rows (d : Dev nD) (c : Fin 2) :
    lgPts LG d (coreSet c.val) = bigSep Finset.univ fun i : Fin 16 => lgPts LG d (rowSet c.val i.val) := by
  rw [← coreSet_eq c]; exact pointsTo_biUnion Finset.univ (ℓ := lgLoc d) (fun i : Fin 16 => rowSet c.val i.val) (rowSet_disjoint c.val)
theorem woPts_rows (d : Dev nD) (c : Fin 2) :
    woPts FO d (coreSet c.val) = bigSep Finset.univ fun i : Fin 16 => woPts FO d (rowSet c.val i.val) := by
  rw [← coreSet_eq c]; exact pointsTo_biUnion Finset.univ (ℓ := woLoc d) (fun i : Fin 16 => rowSet c.val i.val) (rowSet_disjoint c.val)
theorem lgPts_cores (d : Dev nD) : lgPts LG d Finset.univ = bigSep Finset.univ fun c : Fin 2 => lgPts LG d (coreSet c.val) := by
  rw [← coreSet_cover]; exact pointsTo_biUnion Finset.univ (ℓ := lgLoc d) (fun c : Fin 2 => coreSet c.val) coreSet_disjoint
theorem woPts_cores (d : Dev nD) : woPts FO d Finset.univ = bigSep Finset.univ fun c : Fin 2 => woPts FO d (coreSet c.val) := by
  rw [← coreSet_cover]; exact pointsTo_biUnion Finset.univ (ℓ := woLoc d) (fun c : Fin 2 => coreSet c.val) coreSet_disjoint

theorem wdPts_rows (d : Dev nD) (c : Fin 2) :
    wdPts LG d (coreSet c.val) = bigSep Finset.univ fun i : Fin 16 => wdPts LG d (rowSet c.val i.val) :=
  woPts_rows (fun d => (routed (LG d) : Buf (Elt F) (woLoc d))) d c
theorem wdPts_cores (d : Dev nD) : wdPts LG d Finset.univ = bigSep Finset.univ fun c : Fin 2 => wdPts LG d (coreSet c.val) :=
  woPts_cores (fun d => (routed (LG d) : Buf (Elt F) (woLoc d))) d

theorem vecSplit : (K (F := F)).VecSplit' (P LG FO) 0 := by
  intro d c
  show iprop(lgPts LG d (coreSet c.val) ∗ woPts FO d (coreSet c.val)) ⊢ |={Set.univ}=> iprop(
      (bigSep Finset.univ fun i : Fin 16 => iprop(lgPts LG d (rowSet c.val i.val) ∗ woPts FO d (rowSet c.val i.val)))
      ∗ ((bigSep Finset.univ fun i : Fin 16 => iprop(lgPts LG d (rowSet c.val i.val) ∗ wdPts LG d (rowSet c.val i.val)))
          -∗ iprop(lgPts LG d (coreSet c.val) ∗ wdPts LG d (coreSet c.val))))
  rw [bigSep_sep', bigSep_sep', lgPts_rows LG d c, woPts_rows FO d c, wdPts_rows LG d c]
  iintro H; imodintro
  isplitl [H]; · iexact H
  iintro H; iexact H

/-- What the call takes and brings back, over both cores: the two arrays whole. -/
theorem st0_eq (d : Dev nD) : (bigSep Finset.univ fun c : Fin ((K (F := F)).nCore 0) => (P LG FO).st 0 d c)
    = iprop((lgLoc d ↦{fullShare} LG d) ∗ (woLoc d ↦{fullShare} FO d)) := by
  show (bigSep Finset.univ fun c : Fin 2 => iprop(lgPts LG d (coreSet c.val) ∗ woPts FO d (coreSet c.val))) = _
  rw [bigSep_sep', ← lgPts_cores, ← woPts_cores]
theorem dn0_eq (d : Dev nD) : (bigSep Finset.univ fun c : Fin ((K (F := F)).nCore 0) => (P LG FO).dn 0 d c)
    = iprop((lgLoc d ↦{fullShare} LG d) ∗ (woLoc d ↦{fullShare} (routed (LG d) : Buf (Elt F) (woLoc d)))) := by
  show (bigSep Finset.univ fun c : Fin 2 => iprop(lgPts LG d (coreSet c.val) ∗ wdPts LG d (coreSet c.val))) = _
  rw [bigSep_sep', ← lgPts_cores, ← wdPts_cores]

end Cert.Proof.Moe

end
-- ==== Proof.Calls.lean ====
/-
  The two TensorCore calls as regions of @main: each entered from every unscoped buffer held at a valuation and
  left with the call's output arrays replaced by what its write-backs put there.
-/
module

public import proofs.«01_k».proof.Proof.Expert
public import proofs.«01_k».proof.Proof.RouterLaunch
public import Idealize.ShloMosaic.Lib.Pipeline.Regions
public import Idealize.ShloMosaic.Lib.Pipeline.RegionArrays
public import Idealize.ShloMosaic.Lib.Pipeline.FrameSuffix

@[expose] public section

noncomputable section

namespace Cert.Proof.Moe

open Cert.KernelIdeal Cert.KernelIdeal.Gen
open Idealize.ShloMosaic Idealize.ShloMosaic.TcCoe
open Idealize.ShloMosaic.Pipeline (Dat arrRef)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The pipelines' rounds within the resources. -/
def EP : Emb UP (MT nD τ sig (HIx 1) (Elt F) ℕ UU ℕ) := (Emb.inl : Emb UP (UP × Counters)).trans (embR (A := UH) (B := UP × Counters))

instance : (EP (F := F)).LandsIn upEmb := by unfold EP; infer_instance

/-- The contents of every device buffer, per device. -/
abbrev Vln (F : FTy → Type) := Dev nD → Valuation τ sig (Elt F)

/-- A valuation read at the TensorCore's references. -/
abbrev valsOf (V : Vln F) : Vals F := fun c b => V c (Proc.devRef .tc b)

/-- No prefetched table. -/
abbrev adm : (p : Fin 2) → (pcfgs (F := F) p).Adm := fun p => (cfgs p).toPCfg_adm

/-- What the TensorCore's waits may have recorded before the call of index `n`: anything at or below its level. -/
def recAt (n : ℕ) (c : Dev nD) : Set (SemLoc sig × HIx 1) := {p | (K (F := F)).lev ((c : Thread nD τ), p.1) p.2 ≤ 8 * n}

/-- The proof data of the two calls: the first entered at `V0`, owing the SparseCore call; the second at `V2`, owing nothing more. -/
def pdats (V0 V2 : Vln F) : (p : Fin 2) → (c : Dev nD) → Dat τ (Elt F) (HIx 1) ℕ UU ℕ (Pipeline.pin (pcfgs (F := F)) adm p) c
  | ⟨0, _⟩ => fun c => dat0 (valsOf V0) (fun c => (K (F := F)).Otc c 0) (recAt (F := F) 0) c
  | ⟨1, _⟩ => fun c => dat2 (valsOf V2) (fun c => (K (F := F)).Otc c 1) (recAt (F := F) 1) c

variable (V0 V2 : Vln F)

/-- What the first call leaves. -/
def exit0 : Vln F := fun c => Pipeline.withArrays spec0 c (V0 c) fun w =>
  (dat0 (valsOf V0) (fun c => (K (F := F)).Otc c 0) (recAt (F := F) 0) c).arrAt w cfg0.N
/-- What the second call leaves. -/
def exit2 : Vln F := fun c => Pipeline.withArrays spec2 c (V2 c) fun w =>
  (dat2 (valsOf V2) (fun c => (K (F := F)).Otc c 1) (recAt (F := F) 1) c).arrAt w cfg2.N

theorem sharedIn0 : Pipeline.SharedIn spec0 := Pipeline.SharedIn.of_injective launch0.win.arr_inj

theorem arrWins_inj {gr W : Nat} (win : Fin W → Pipeline.WinSpec sig gr) (h : Function.Injective (arrRef win)) (w : Fin W) :
    Pipeline.shareOf win w = fullShare := by
  refine Pipeline.shareOf_eq_fullShare win ?_
  ext w'
  simp only [Pipeline.arrWins, Finset.mem_filter, Finset.mem_univ, true_and, Finset.mem_singleton]
  exact ⟨fun e => h e, fun e => e ▸ rfl⟩

theorem arrs0_entry (c : Dev nD) :
    (Pipeline.arrBufs spec0 c (valsOf V0 c) : sProp 𝕄) = (dat0 (valsOf V0) (fun c => (K (F := F)).Otc c 0) (recAt (F := F) 0) c).arrays ((dat0 (valsOf V0) (fun c => (K (F := F)).Otc c 0) (recAt (F := F) 0) c).arrAt · 0) :=
  (dat0 (valsOf V0) (fun c => (K (F := F)).Otc c 0) (recAt (F := F) 0) c).arrBufs_eq_arrays sharedIn0 arr_whole0 (fun w _ => (arrWins_inj spec0 launch0.win.arr_inj w).symm) _ _ fun _ => rfl

theorem split0 (c : Dev nD) :
    (unscopedBufs c (valsOf V0 c) : sProp 𝕄)
      = iprop((pdats V0 V2 0 c).arrays ((pdats V0 V2 0 c).arrAt · 0) ∗ Pipeline.unscopedRest spec0 c (valsOf V0 c)) :=
  (Pipeline.unscopedBufs_split₀ cfgs 0 launch0.win.arr_unscoped c (valsOf V0 c)).trans
    (congrArg (fun X : sProp 𝕄 => iprop(X ∗ Pipeline.unscopedRest spec0 c (valsOf V0 c))) (arrs0_entry V0 c))

theorem arrs0_exit (c : Dev nD) :
    (Pipeline.arrBufs spec0 c (valsOf (exit0 V0) c) : sProp 𝕄) = (dat0 (valsOf V0) (fun c => (K (F := F)).Otc c 0) (recAt (F := F) 0) c).arrays ((dat0 (valsOf V0) (fun c => (K (F := F)).Otc c 0) (recAt (F := F) 0) c).arrAt · cfg0.N) :=
  (dat0 (valsOf V0) (fun c => (K (F := F)).Otc c 0) (recAt (F := F) 0) c).arrBufs_eq_arrays sharedIn0 arr_whole0 (fun w _ => (arrWins_inj spec0 launch0.win.arr_inj w).symm) _ _
    fun w => ((dat0 (valsOf V0) (fun c => (K (F := F)).Otc c 0) (recAt (F := F) 0) c).withArrays_arrAt sharedIn0 (V0 c) (fun _ => rfl) w).symm

theorem rest0_exit (c : Dev nD) :
    (Pipeline.unscopedRest spec0 c (valsOf (exit0 V0) c) : sProp 𝕄) = Pipeline.unscopedRest spec0 c (valsOf V0 c) :=
  bigSep_congr fun b hb => congrArg (fun f => iprop((_ : Loc nD τ sig) ↦{fullShare} f))
    (Pipeline.withArrays_of_ne spec0 c (V0 c) _ b fun w e => (Finset.mem_sdiff.mp hb).2 (Finset.mem_image.mpr ⟨w, Finset.mem_univ _, e⟩))

theorem join0 (c : Dev nD) :
    (unscopedBufs c (valsOf (exit0 V0) c) : sProp 𝕄)
      = iprop((pdats V0 V2 0 c).arrays ((pdats V0 V2 0 c).arrAt · cfg0.N) ∗ Pipeline.unscopedRest spec0 c (valsOf V0 c)) :=
  (Pipeline.unscopedBufs_split₀ cfgs 0 launch0.win.arr_unscoped c (valsOf (exit0 V0) c)).trans
    (congrArg₂ (fun X Y : sProp 𝕄 => iprop(X ∗ Y)) (arrs0_exit V0 c) (rest0_exit V0 c))

theorem arrs2_entry (c : Dev nD) :
    (Pipeline.arrBufs spec2 c (valsOf V2 c) : sProp 𝕄) = (dat2 (valsOf V2) (fun c => (K (F := F)).Otc c 1) (recAt (F := F) 1) c).arrays ((dat2 (valsOf V2) (fun c => (K (F := F)).Otc c 1) (recAt (F := F) 1) c).arrAt · 0) :=
  (dat2 (valsOf V2) (fun c => (K (F := F)).Otc c 1) (recAt (F := F) 1) c).arrBufs_eq_arrays sharedIn2 arr_whole2 (fun w _ => rfl) _ _ fun _ => rfl

theorem split2 (c : Dev nD) :
    (unscopedBufs c (valsOf V2 c) : sProp 𝕄)
      = iprop((pdats V0 V2 1 c).arrays ((pdats V0 V2 1 c).arrAt · 0) ∗ Pipeline.unscopedRest spec2 c (valsOf V2 c)) :=
  (Pipeline.unscopedBufs_split₀ cfgs 1 launch₀2.win.arr_unscoped c (valsOf V2 c)).trans
    (congrArg (fun X : sProp 𝕄 => iprop(X ∗ Pipeline.unscopedRest spec2 c (valsOf V2 c))) (arrs2_entry V2 c))

theorem arrs2_exit (c : Dev nD) :
    (Pipeline.arrBufs spec2 c (valsOf (exit2 V2) c) : sProp 𝕄) = (dat2 (valsOf V2) (fun c => (K (F := F)).Otc c 1) (recAt (F := F) 1) c).arrays ((dat2 (valsOf V2) (fun c => (K (F := F)).Otc c 1) (recAt (F := F) 1) c).arrAt · cfg2.N) :=
  (dat2 (valsOf V2) (fun c => (K (F := F)).Otc c 1) (recAt (F := F) 1) c).arrBufs_eq_arrays sharedIn2 arr_whole2 (fun w _ => rfl) _ _
    fun w => ((dat2 (valsOf V2) (fun c => (K (F := F)).Otc c 1) (recAt (F := F) 1) c).withArrays_arrAt sharedIn2 (V2 c) (fun _ => rfl) w).symm

theorem rest2_exit (c : Dev nD) :
    (Pipeline.unscopedRest spec2 c (valsOf (exit2 V2) c) : sProp 𝕄) = Pipeline.unscopedRest spec2 c (valsOf V2 c) :=
  bigSep_congr fun b hb => congrArg (fun f => iprop((_ : Loc nD τ sig) ↦{fullShare} f))
    (Pipeline.withArrays_of_ne spec2 c (V2 c) _ b fun w e => (Finset.mem_sdiff.mp hb).2 (Finset.mem_image.mpr ⟨w, Finset.mem_univ _, e⟩))

theorem join2 (c : Dev nD) :
    (unscopedBufs c (valsOf (exit2 V2) c) : sProp 𝕄)
      = iprop((pdats V0 V2 1 c).arrays ((pdats V0 V2 1 c).arrAt · cfg2.N) ∗ Pipeline.unscopedRest spec2 c (valsOf V2 c)) :=
  (Pipeline.unscopedBufs_split₀ cfgs 1 launch₀2.win.arr_unscoped c (valsOf (exit2 V2) c)).trans
    (congrArg₂ (fun X Y : sProp 𝕄 => iprop(X ∗ Y)) (arrs2_exit V2 c) (rest2_exit V2 c))

/-- What the TensorCore owes before the call of index `n`, with waits recorded at or below its level. -/
def owing (n : ℕ) (c : Dev nD) : sProp 𝕄 :=
  iprop(∃ W, ⌜(K (F := F)).WBelow (c : Thread nD τ) W (8 * n)⌝ ∗ owes (c : Thread nD τ) ((K (F := F)).Otc c n) W)

theorem owing_eq_owesAt {cfg : Pipeline.Cfg sig Λ₀} {c : Dev nD} (dat : Dat τ (Elt F) (HIx 1) ℕ UU ℕ cfg c) (n : ℕ)
    (ho : ∀ t, dat.owed t = (K (F := F)).Otc c n) (hr : ∀ t, dat.recorded t = recAt (F := F) n c) (t : Fin (cfg.N + 1)) :
    owing n c ⊢ (dat.owesAt none t : sProp 𝕄) := by
  unfold owing Pipeline.Dat.owesAt Pipeline.owesWithin Pipeline.Dat.bound
  rw [ho t, hr t]
  iintro ⟨%W, %hW, HO⟩
  iexists W
  isplitr
  · ipureintro; exact fun p hp => Or.inl (hW p hp)
  iexact HO

theorem owesAt_owing {cfg : Pipeline.Cfg sig Λ₀} {c : Dev nD} (dat : Dat τ (Elt F) (HIx 1) ℕ UU ℕ cfg c) (n : ℕ)
    (ho : ∀ t, dat.owed t = (K (F := F)).Otc c n) (hr : ∀ t, dat.recorded t = recAt (F := F) n c) (t : Fin (cfg.N + 1)) :
    (dat.owesAt none t : sProp 𝕄) ⊢ owing n c := by
  unfold owing Pipeline.Dat.owesAt Pipeline.owesWithin Pipeline.Dat.bound
  rw [ho t, hr t]
  iintro ⟨%W, %hW, HO⟩
  iexists W
  isplitr
  · ipureintro
    intro p hp
    rcases hW hp with h | h
    · exact h
    · obtain ⟨w, s, rfl⟩ := h
      exact Nat.zero_le _
  iexact HO

theorem otc_cut (n : ℕ) (c : Dev nD) (g : GSem nD τ sig) (i : HIx 1) (h : 0 < (K (F := F)).Otc c n g i) :
    i ∈ (K (F := F)).L g ∧ 0 < (K (F := F)).lev g i := by
  have h' := (K (F := F)).lev_of_Otc_pos h
  exact ⟨Finset.mem_univ _, by omega⟩

theorem body0 (c : Dev nD) :
    Pipeline.BodyObligationLoose (dat0 (valsOf V0) (fun c => (K (F := F)).Otc c 0) (recAt (F := F) 0) c) defs₀ 𝒱₀ none Set.univ :=
  (obligation0 (valsOf V0) (fun c => (K (F := F)).Otc c 0) (recAt (F := F) 0) c).loose

theorem body2 (c : Dev nD) :
    Pipeline.BodyObligationLoose (dat2 (valsOf V2) (fun c => (K (F := F)).Otc c 1) (recAt (F := F) 1) c) defs₀ 𝒱₀ none Set.univ :=
  (obligation2 (valsOf V2) (fun c => (K (F := F)).Otc c 1) (recAt (F := F) 1) c).loose

set_option backward.isDefEq.respectTransparency.types false in
/-- The first call, entered at `V0`. -/
def reg0 : Pipeline.RegionSeg (pcfgs (F := F)) adm (pdats V0 V2) none defs₀ 𝒱₀ (K (F := F)).L (K (F := F)).lev 0 where
  win := launch0.win.to₀
  block_pos := block_pos0
  stage_whole := stage_whole0
  K := PEmpty
  osem k := k.elim
  ho := Pipeline.OwnSemFacts.none _
  hbody := body0 V0
  hwaits c := Pipeline.cellsWaits_of_cut (Pipeline.pin (pcfgs (F := F)) adm) (pdats V0 V2) none 0 c 0 ((K (F := F)).Otc c 0) (fun _ => rfl)
    (fun _ _ => Finset.mem_univ _) (fun _ _ => le_rfl) (otc_cut 0 c)
  pre c := iprop(unscopedBufs c (valsOf V0 c) ∗ owing 0 c)
  post c := iprop(unscopedBufs c (valsOf (exit0 V0) c) ∗ owing 0 c)
  X _ := BI.emp
  Y _ := BI.emp
  Z c := Pipeline.unscopedRest spec0 c (valsOf V0 c)
  hentry c := by
    rw [Pipeline.ownSems0_none, split0 V0 V2 c, Pipeline.prefHeld_of_none _ rfl]
    iintro ⟨⟨⟨Ha, Hr⟩, HO⟩, -, -⟩
    imodintro
    isplitl [Ha]; · iexact Ha
    isplitr; · iempintro
    isplitl [HO]; · iapply (owing_eq_owesAt (pdats V0 V2 0 c) 0 (fun _ => rfl) (fun _ => rfl) 0); iexact HO
    isplitr; · iempintro
    iexact Hr
  hin c := by
    rw [show (pdats V0 V2 0 c).Φ 0 = Pipeline.scopedRest spec0 c from rfl]
    iintro ⟨-, -, Hr⟩; iexact Hr
  hout c := by
    rw [Pipeline.ownSems0_none, show (pdats V0 V2 0 c).Φ (Fin.last _) = Pipeline.scopedRest spec0 c from rfl]
    iintro Hr
    isplitr; · iempintro
    isplitr; · iempintro
    iexact Hr
  hexit c := by
    rw [join0 V0 V2 c]
    iintro ⟨Ha, HO, -, Hr⟩
    imodintro
    isplitl [Ha Hr]
    · isplitl [Ha]; · iexact Ha
      iexact Hr
    iapply (owesAt_owing (pdats V0 V2 0 c) 0 (fun _ => rfl) (fun _ => rfl) (Fin.last _)); iexact HO

theorem scopedRest2_back (V : Vals F) (c : Dev nD) (n : ℕ) : expInv V c n ⊢ (Pipeline.scopedRest spec2 c : sProp 𝕄) := by
  cases n with
  | zero => exact BIBase.Entails.rfl
  | succ n =>
    rw [scopedRest2_split]
    unfold expInv
    iintro ⟨Ha, Hb, Hc⟩
    isplitl [Ha]; · iexists _; iexact Ha
    isplitl [Hb]; · iexists _; iexact Hb
    iexact Hc

set_option backward.isDefEq.respectTransparency.types false in
/-- The second call, entered at `V2`. -/
def reg2 : Pipeline.RegionSeg (pcfgs (F := F)) adm (pdats V0 V2) none defs₀ 𝒱₀ (K (F := F)).L (K (F := F)).lev 1 where
  win := launch₀2.win
  block_pos := block_pos2
  stage_whole := stage_whole2
  K := PEmpty
  osem k := k.elim
  ho := Pipeline.OwnSemFacts.none _
  hbody := body2 V2
  hwaits c := Pipeline.cellsWaits_of_cut (Pipeline.pin (pcfgs (F := F)) adm) (pdats V0 V2) none 1 c 0 ((K (F := F)).Otc c 1) (fun _ => rfl)
    (fun _ _ => Finset.mem_univ _) (fun _ _ => le_rfl) (otc_cut 1 c)
  pre c := iprop(unscopedBufs c (valsOf V2 c) ∗ owing 1 c)
  post c := iprop(unscopedBufs c (valsOf (exit2 V2) c) ∗ owing 1 c)
  X _ := BI.emp
  Y _ := BI.emp
  Z c := Pipeline.unscopedRest spec2 c (valsOf V2 c)
  hentry c := by
    rw [Pipeline.ownSems0_none, split2 V0 V2 c, Pipeline.prefHeld_of_none _ rfl]
    iintro ⟨⟨⟨Ha, Hr⟩, HO⟩, -, -⟩
    imodintro
    isplitl [Ha]; · iexact Ha
    isplitr; · iempintro
    isplitl [HO]; · iapply (owing_eq_owesAt (pdats V0 V2 1 c) 1 (fun _ => rfl) (fun _ => rfl) 0); iexact HO
    isplitr; · iempintro
    iexact Hr
  hin c := by
    rw [show (pdats V0 V2 1 c).Φ 0 = Pipeline.scopedRest spec2 c from rfl]
    iintro ⟨-, -, Hr⟩; iexact Hr
  hout c := by
    rw [Pipeline.ownSems0_none, show (pdats V0 V2 1 c).Φ (Fin.last _) = expInv (valsOf V2) c 64 from rfl]
    iintro Hr
    isplitr; · iempintro
    isplitr; · iempintro
    iapply (scopedRest2_back (valsOf V2) c 64); iexact Hr
  hexit c := by
    rw [join2 V0 V2 c]
    iintro ⟨Ha, HO, -, Hr⟩
    imodintro
    isplitl [Ha Hr]
    · isplitl [Ha]; · iexact Ha
      iexact Hr
    iapply (owesAt_owing (pdats V0 V2 1 c) 1 (fun _ => rfl) (fun _ => rfl) (Fin.last _)); iexact HO

end Cert.Proof.Moe

end
-- ==== Proof.Main.lean ====
/-
  @main: the reshapes, the first TensorCore call, the SparseCore call, the second TensorCore call and the last reshape,
  run from the buffers of the launch to the buffers they leave; and the program's run.
-/
module

public import proofs.«01_k».proof.Proof.Calls

@[expose] public section

set_option maxRecDepth 16384

noncomputable section

namespace Cert.Proof.Moe

open Cert.KernelIdeal Cert.KernelIdeal.Gen
open Idealize.ShloMosaic Idealize.ShloMosaic.TcCoe
open Idealize.ShloMosaic.Pipeline (ucRefs)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The host's reshapes -/

def rs0 : HloOp τ sig (Elt F) := StableHlo.reshape main_arg0 main_v0 (rfl : (.f32 : EltTy) = .f32) shapeCasts_S16x8x1024_S128x1024
def rs1 : HloOp τ sig (Elt F) := StableHlo.reshape main_arg2 main_v1 (rfl : (.f32 : EltTy) = .f32) shapeCasts_S4096_S2x1x2048
def rs2 : HloOp τ sig (Elt F) := StableHlo.reshape main_arg4 main_v2 (rfl : (.f32 : EltTy) = .f32) shapeCasts_S1024_S1x1024
def rs3 : HloOp τ sig (Elt F) := StableHlo.reshape main_arg6 main_v3 (rfl : (.f32 : EltTy) = .f32) shapeCasts_S64_S64x1
def rs6 : HloOp τ sig (Elt F) := StableHlo.reshape main_arg8 main_v6 (rfl : (.f32 : EltTy) = .f32) shapeCasts_S64x1024_S64x1x1024
def rs7 : HloOp τ sig (Elt F) := StableHlo.reshape main_arg8 main_v7 (rfl : (.f32 : EltTy) = .f32) shapeCasts_S64x1024_S64x1x1024
def rs9 : HloOp τ sig (Elt F) := StableHlo.reshape main_v8 main_v9 (rfl : (.f32 : EltTy) = .f32) shapeCasts_S128x1024_S16x8x1024

variable (m : (ℓ : Loc nD τ sig) → Buf (Elt F) ℓ)

/-- A TensorCore buffer's name on the device. -/
abbrev dr (b : Ref sig .tc) : DevRef τ sig := Proc.devRef .tc b

/-! ## What the buffers hold along @main -/

/-- At launch. -/
def atLaunch : Vln F := fun c b => m (c, b)
/-- Before the first call. -/
def atFfn : Vln F := fun c => (rs3 (F := F)).result ((rs2 (F := F)).result ((rs1 (F := F)).result ((rs0 (F := F)).result (atLaunch m c))))
/-- Before the SparseCore call. -/
def atRouter : Vln F := exit0 (atFfn m)
/-- The logits and the weights' buffer as the SparseCore call finds them. -/
def lgIn (d : Dev nD) : Buf (Elt F) (lgLoc d) := atRouter m d (dr main_v4_1)
def woIn (d : Dev nD) : Buf (Elt F) (woLoc d) := atRouter m d (dr main_v5)
/-- After the SparseCore call. -/
def routerOut : Vln F := fun d => Function.update (atRouter m d) (dr main_v5) (routed (lgIn m d))
/-- Before the second call. -/
def atExpert : Vln F := fun c => (rs7 (F := F)).result ((rs6 (F := F)).result (routerOut m c))
/-- After the second call. -/
def expertOut : Vln F := exit2 (atExpert m)
/-- At the end. -/
def atEnd : Vln F := fun c => (rs9 (F := F)).result (expertOut m c)

/-- The SparseCore call's resources at this run's contents. -/
abbrev PM : (K (F := F)).Pay (N := 1) (nD := nD) (Val := Elt F) (Name := ℕ) (U := UU) := P (lgIn m) (woIn m)

/-! ## @main on the TensorCore -/

abbrev adats := pdats (atFfn m) (atExpert m)

/-- The two calls' cells and tokens. -/
def ghosts (d : Dev nD) : sProp 𝕄 :=
  bigSep Finset.univ fun p : Fin 2 => iprop(Pipeline.cellsGhost (Pipeline.pin (pcfgs (F := F)) adm) EP p d
    ∗ Pipeline.toksInit (Pipeline.pin (pcfgs (F := F)) adm) EP p d)

theorem ghosts_eq (d : Dev nD) : (ghosts d : sProp 𝕄)
    = iprop((Pipeline.cellsGhost (Pipeline.pin (pcfgs (F := F)) adm) EP 0 d ∗ Pipeline.toksInit (Pipeline.pin (pcfgs (F := F)) adm) EP 0 d)
        ∗ (Pipeline.cellsGhost (Pipeline.pin (pcfgs (F := F)) adm) EP 1 d ∗ Pipeline.toksInit (Pipeline.pin (pcfgs (F := F)) adm) EP 1 d)) :=
  bigSep_fin_two _

theorem pair_sub : ({dr main_v4_1, dr main_v5} : Finset (DevRef τ sig)) ⊆ ucRefs τ sig := by decide

theorem held_pair (d : Dev nD) (V : Valuation τ sig (Elt F)) :
    (StableHlo.held (d.tc : Thread nD τ) {dr main_v4_1, dr main_v5} V : sProp 𝕄)
      = iprop((lgLoc d ↦{fullShare} (V (dr main_v4_1) : Buf (Elt F) (lgLoc d))) ∗ (woLoc d ↦{fullShare} (V (dr main_v5) : Buf (Elt F) (woLoc d)))) := by
  unfold StableHlo.held
  rw [SparseCore.bigSep_insert' (by decide), bigSep_singleton]

/-- The SparseCore call's input, taken out of the buffers, and its output put back. -/
theorem router_in (d : Dev nD) :
    (StableHlo.held (d.tc : Thread nD τ) (ucRefs τ sig) (atRouter m d) : sProp 𝕄)
      = iprop(((lgLoc d ↦{fullShare} lgIn m d) ∗ (woLoc d ↦{fullShare} woIn m d))
          ∗ StableHlo.held (d.tc : Thread nD τ) (ucRefs τ sig \ {dr main_v4_1, dr main_v5}) (atRouter m d)) := by
  rw [StableHlo.held_sub_split _ pair_sub, held_pair, lgIn, woIn]

theorem router_out (d : Dev nD) :
    (StableHlo.held (d.tc : Thread nD τ) (ucRefs τ sig) (routerOut m d) : sProp 𝕄)
      = iprop(((lgLoc d ↦{fullShare} lgIn m d) ∗ (woLoc d ↦{fullShare} (routed (lgIn m d) : Buf (Elt F) (woLoc d))))
          ∗ StableHlo.held (d.tc : Thread nD τ) (ucRefs τ sig \ {dr main_v4_1, dr main_v5}) (atRouter m d)) := by
  have e1 : routerOut m d (dr main_v4_1) = lgIn m d := Function.update_of_ne (by decide) _ _
  have e2 : routerOut m d (dr main_v5) = routed (lgIn m d) := Function.update_self _ _ _
  have e3 : (StableHlo.held (d.tc : Thread nD τ) (ucRefs τ sig \ {dr main_v4_1, dr main_v5}) (routerOut m d) : sProp 𝕄)
      = StableHlo.held (d.tc : Thread nD τ) (ucRefs τ sig \ {dr main_v4_1, dr main_v5}) (atRouter m d) :=
    StableHlo.held_congr _ fun b hb => Function.update_of_ne (fun e => (Finset.mem_sdiff.mp (e ▸ hb)).2 (by simp)) _ _
  rw [StableHlo.held_sub_split _ pair_sub, held_pair, e1, e2, e3]

/-- What else the TensorCore carries between its calls: its place in the handshakes. -/
def place (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(owing n d ∗ place d n) := by
  unfold SparseCore.Cfg.tcSt owing place
  rfl

theorem reshape_sub (x y : Ref sig .tc) (e : x.ty.elt = y.ty.elt) (h) (hx) (hy) :
    (StableHlo.reshape (τ := τ) (Val := Elt F) x y e h hx hy).bufs ⊆ ucRefs τ sig :=
  Pipeline.sub_ucRefs _ (StableHlo.reshape_bufs_sub x y e h hx hy)

/-- One host reshape, over the buffers the TensorCore holds. -/
theorem host_step (d : Dev nD) (op : HloOp τ sig (Elt F)) (hS : op.bufs ⊆ ucRefs τ sig) (hf : op.fresh = ∅) (V : Valuation τ sig (Elt F)) (Q : PUnit → sProp 𝕄) :
    iprop(boundary (d.tc : Thread nD τ) ∗ (StableHlo.held (d.tc : Thread nD τ) (ucRefs τ sig) V : sProp 𝕄)
        ∗ ((boundary (d.tc : Thread nD τ) ∗ (StableHlo.held (d.tc : Thread nD τ) (ucRefs τ sig) (op.result V) : sProp 𝕄)) -∗ Q ⟨⟩))
      ⊢ wp frame (wpE ((K (F := F)).defs (D (F := F))) 𝒱 (d.tc : Thread nD τ) none) Set.univ (hlo rfl op fun _ => .ret ⟨⟩) Q := by
  iintro ⟨Hb, HV, Hk⟩
  iapply (StableHlo.wp_hlo_within 𝒱 (d.tc : Thread nD τ) none Set.univ hS (hf := hf)) $$ [Hb HV]
  · isplitl [Hb]; · iexact Hb
    iexact HV
  iintro H
  rw [wp_ret]
  imodintro
  iapply Hk
  iexact H

/-- A TensorCore call as a step of @main. -/
theorem call_step [∀ e, Nonempty (Elt F e)] (d : Dev nD) (p : Fin 2) (R : Pipeline.RegionSeg (pcfgs (F := F)) adm (adats m) none defs₀ 𝒱₀ (K (F := F)).L (K (F := F)).lev p)
    (Q : PUnit → sProp 𝕄) :
    iprop(((boundary (d.tc : Thread nD τ) ∗ R.post d) -∗ Q ⟨⟩) ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (d.tc : Thread nD τ) none) Set.univ
          (Prog.lift (.customCall (SparseCore.inner (Pipeline.entry p)) ())) Q := by
  refine BIBase.Entails.trans ?_ ((K (F := F)).wp_liftProg (D (F := F)) 𝒱 (d.tc : Thread nD τ) Set.univ none (.op (.customCall (Pipeline.entry p) ()) .ret) Q)
  refine BIBase.Entails.trans ?_ (Pipeline.RegionSeg.wp (pcfgs (F := F)) adm (adats m) none cellOf_inj EP defs₀ 𝒱₀ (K (F := F)).L (K (F := F)).lev R d none
    (fun _ h => nomatch h) .ret Q)
  iintro ⟨Hk, Hb, Hpre, Hl, Hg, Ht⟩
  isplitl [Hk]
  · iintro H
    rw [wp_ret]
    imodintro
    iapply Hk
    iexact H
  iframe

/-- What @main leaves: every buffer at its final contents. -/
def atExit (d : Dev nD) : sProp 𝕄 := StableHlo.held (d.tc : Thread nD τ) (ucRefs τ sig) (atEnd m d)

theorem held_bufs (d : Dev nD) (V : Vln F) :
    (unscopedBufs d (valsOf V d) : sProp 𝕄) = StableHlo.held (d.tc : Thread nD τ) (ucRefs τ sig) (V d) :=
  Pipeline.unscopedBufs_held d (V d)

theorem reg0_pre (d : Dev nD) : ((reg0 (atFfn m) (atExpert m)).pre d : sProp 𝕄)
    = iprop(StableHlo.held (d.tc : Thread nD τ) (ucRefs τ sig) (atFfn m d) ∗ owing 0 d) :=
  congrArg (fun X : sProp 𝕄 => iprop(X ∗ owing 0 d)) (held_bufs d (atFfn m))

theorem reg0_post (d : Dev nD) : ((reg0 (atFfn m) (atExpert m)).post d : sProp 𝕄)
    = iprop(StableHlo.held (d.tc : Thread nD τ) (ucRefs τ sig) (atRouter m d) ∗ owing 0 d) :=
  congrArg (fun X : sProp 𝕄 => iprop(X ∗ owing 0 d)) (held_bufs d (exit0 (atFfn m)))

theorem reg2_pre (d : Dev nD) : ((reg2 (atFfn m) (atExpert m)).pre d : sProp 𝕄)
    = iprop(StableHlo.held (d.tc : Thread nD τ) (ucRefs τ sig) (atExpert m d) ∗ owing 1 d) :=
  congrArg (fun X : sProp 𝕄 => iprop(X ∗ owing 1 d)) (held_bufs d (atExpert m))

theorem reg2_post (d : Dev nD) : ((reg2 (atFfn m) (atExpert m)).post d : sProp 𝕄)
    = iprop(StableHlo.held (d.tc : Thread nD τ) (ucRefs τ sig) (expertOut m d) ∗ owing 1 d) :=
  congrArg (fun X : sProp 𝕄 => iprop(X ∗ owing 1 d)) (held_bufs d (exit2 (atExpert m)))

/-- @main on device `d`'s TensorCore. -/
theorem hmain [∀ e, Nonempty (Elt F e)] (ρ : Dev nD → PrngReg) (κ : GSem nD τ sig → ℕ) (d : Dev nD) :
    iprop((K (F := F)).ctx EH (PM m) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ atExit m d ∗ (K (F := F)).tcEnd d) := by
  unfold SparseCore.Cfg.tcRes SparseCore.Cfg.tcEnd atExit
  rw [show (unscopedBufs d (fun b => m ((SparseCore.T d).loc b)) : sProp 𝕄) = unscopedBufs d (valsOf (atLaunch m) d) from rfl, held_bufs,
    ghosts_eq]
  simp only [main, wp_bind, wp_pure]
  iintro ⟨#Hctx, Hst, ⟨Hb, Hbufs, Hts, -⟩, ⟨Hg0, Ht0⟩, Hg1, Ht1⟩
  ihave #Hlev := ((K (F := F)).ctx_levAts κ) $$ Hctx
  iapply (host_step d rs0 (reshape_sub _ _ _ _ _ _) rfl (atLaunch m d) _)
  iframe
  iintro ⟨Hb, Hbufs⟩
  iapply (host_step d rs1 (reshape_sub _ _ _ _ _ _) rfl _ _)
  iframe
  iintro ⟨Hb, Hbufs⟩
  iapply (host_step d rs2 (reshape_sub _ _ _ _ _ _) rfl _ _)
  iframe
  iintro ⟨Hb, Hbufs⟩
  iapply (host_step d rs3 (reshape_sub _ _ _ _ _ _) rfl _ _)
  iframe
  iintro ⟨Hb, Hbufs⟩
  ihave Hst0 := (Entails.of_eq (tcSt_eq d 0)) $$ Hst
  icases Hst0 with ⟨HO, Hpl⟩
  iapply (call_step m d 0 (reg0 (atFfn m) (atExpert m)) _)
  isplitr [Hb Hbufs HO Hg0 Ht0]
  rotate_left
  · isplitl [Hb]; · iexact Hb
    isplitl [Hbufs HO]
    · rw [reg0_pre]
      isplitl [Hbufs]; · iexact Hbufs
      iexact HO
    isplitr; · iexact Hlev
    isplitl [Hg0]; · iexact Hg0
    iexact Ht0
  iintro ⟨Hb, Hpost⟩
  ihave Hpost' := (Entails.of_eq (reg0_post m d)) $$ Hpost
  icases Hpost' with ⟨Hbufs, HO⟩
  ihave Hb2 := (Entails.of_eq (router_in m d)) $$ Hbufs
  icases Hb2 with ⟨Hio, Hrest⟩
  iapply ((K (F := F)).wp_run (D (F := F)) 𝒱 (EH := EH) (P := PM m) κ d 0)
  isplitr; · iexact Hctx
  isplitl [HO Hpl]
  · rw [tcSt_eq]
    isplitl [HO]; · iexact HO
    iexact Hpl
  isplitl [Hio]
  · rw [st0_eq]
    iexact Hio
  iintro ⟨Hst, Hdn⟩
  ihave Hdn' := (Entails.of_eq (dn0_eq (lgIn m) (woIn m) d)) $$ Hdn
  ihave Hbufs := (Entails.of_eq (router_out m d).symm) $$ [Hdn' Hrest]
  · isplitl [Hdn']; · iexact Hdn'
    iexact Hrest
  iapply (host_step d rs6 (reshape_sub _ _ _ _ _ _) rfl _ _)
  iframe
  iintro ⟨Hb, Hbufs⟩
  iapply (host_step d rs7 (reshape_sub _ _ _ _ _ _) rfl _ _)
  iframe
  iintro ⟨Hb, Hbufs⟩
  ihave Hst0 := (show (K (F := F)).tcSt EH d ((0 : Fin 1).val + 1) ⊢ iprop(owing 1 d ∗ place d 1) from Entails.of_eq (tcSt_eq d 1)) $$ Hst
  icases Hst0 with ⟨HO, Hpl⟩
  iapply (call_step m d 1 (reg2 (atFfn m) (atExpert m)) _)
  isplitr [Hb Hbufs HO Hg1 Ht1]
  rotate_left
  · isplitl [Hb]; · iexact Hb
    isplitl [Hbufs HO]
    · rw [reg2_pre]
      isplitl [Hbufs]; · iexact Hbufs
      iexact HO
    isplitr; · iexact Hlev
    isplitl [Hg1]; · iexact Hg1
    iexact Ht1
  iintro ⟨Hb, Hpost⟩
  ihave Hpost' := (Entails.of_eq (reg2_post m d)) $$ Hpost
  icases Hpost' with ⟨Hbufs, HO⟩
  iapply (host_step d rs9 (reshape_sub _ _ _ _ _ _) rfl _ _)
  iframe
  iintro ⟨Hb, Hbufs⟩
  imodintro
  isplitl [HO Hpl]
  · rw [tcSt_eq]
    isplitl [HO]; · iexact HO
    iexact Hpl
  isplitl [Hbufs]
  · iexact Hbufs
  iexact Hb

/-! ## The launch -/

/-- The launch's ghost state: the handshakes' cells and tokens, the two calls' cells and tokens. -/
def u₀ : UU := (initOf (K (F := F)).hsCells (K (F := F)).hsToks,
  (initOf (Pipeline.cells (nD := nD) (τ := τ) cfgs cellOf_inj) (Pipeline.launchToks (nD := nD) (τ := τ) cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (PM m).x q thr) := by
  unfold u₀
  iintro Hu
  ihave H := (ownU_pair (initOf (K (F := F)).hsCells (K (F := F)).hsToks)
    (initOf (Pipeline.cells (nD := nD) (τ := τ) cfgs cellOf_inj) (Pipeline.launchToks (nD := nD) (τ := τ) cfgs cellOf_inj), (1 : Counters))) $$ Hu
  icases H with ⟨HH, HR⟩
  ihave HP := (show (BI.own (embR (A := UH) (B := UP × Counters)
      (initOf (Pipeline.cells (nD := nD) (τ := τ) cfgs cellOf_inj) (Pipeline.launchToks (nD := nD) (τ := τ) cfgs cellOf_inj), (1 : Counters))) : sProp 𝕄)
      ⊢ BI.own (EP (F := F) (initOf (Pipeline.cells (nD := nD) (τ := τ) cfgs cellOf_inj) (Pipeline.launchToks (nD := nD) (τ := τ) cfgs cellOf_inj)))
    from BIBase.Entails.rfl) $$ HR
  imod (Pipeline.fund_ghost (nD := nD) (τ := τ) cfgs EP cellOf_inj) $$ HP with ⟨Hg, Ht⟩
  imodintro
  isplitl [HH]; · iexact HH
  isplitl [Hg Ht]
  · unfold ghosts
    iapply (Entails.of_eq (bigSep_congr fun d _ => (bigSep_sep' (Finset.univ : Finset (Fin 2)) _ _).symm))
    rw [bigSep_sep']
    isplitl [Hg]; · iexact Hg
    iexact Ht
  rw [show (bigSep Finset.univ fun thr : Thread nD τ => bigSep Finset.univ fun q : Fin 1 => (PM m).x q thr)
      = (bigSep Finset.univ fun _ => iprop(emp) : sProp 𝕄) from
    bigSep_congr fun _ _ => bigSep_univ_of_subsingleton (0 : Fin 1),
    show (bigSep Finset.univ fun _ : Thread nD τ => iprop(emp) : sProp 𝕄) = iprop(emp) from bigSep_emp_const _]
  iempintro

/-- The final memory agrees with the buffers @main leaves. -/
def fq (d : Dev nD) (s' : Phys nD τ sig (Elt F)) : Prop := ∀ b : {b : DevRef τ sig // b ∈ ucRefs τ sig}, s'.mem.mem (d, b.1) = atEnd m d b.1

theorem hfin (d : Dev nD) (s' : Phys nD τ sig (Elt F)) : iprop(atExit m d ∗ SI s') ⊢ (⌜fq m d s'⌝ : sProp 𝕄) := by
  unfold atExit StableHlo.held fq
  refine (BI.Laws.forall_intro fun b => ?_).trans BI.Laws.pure_forall.2
  iintro ⟨Hb, HSI⟩
  ihave Hp := (SparseCore.ent <| bigSep_elim (Φ := fun b : DevRef τ sig => (((d.tc : Thread nD τ).1, b) ↦{fullShare} atEnd m d b : sProp 𝕄)) b.2) $$ Hb
  ihave H := (SI_pointsTo_agree (st := s') (ℓ := (d, b.1)) (I := Finset.univ) (q := fullShare) (f := atEnd m d b.1)) $$ [HSI Hp]
  · isplitl [HSI] <;> iassumption
  icases H with %h
  ipureintro; exact funext fun i => h i (Finset.mem_univ i)

/-- What a run ends with: every buffer that outlives the calls at its final contents, every counter at zero. -/
def Ends : PUnit × MemSt nD τ sig (Elt F) → Prop := fun r =>
  (∀ (d : Dev nD) (b : {b : DevRef τ sig // b ∈ ucRefs τ sig}), r.2.mem (d, b.1) = atEnd m d b.1) ∧ r.2.sem = fun _ => 0

theorem run_main [∀ e, Nonempty (Elt F e)] (ρ : Dev nD → PrngReg) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (lgIn m) (woIn m) facts)
    (fun q _ => match q with | 0 => SparseCore.Cfg.VecSplit.of_plain (vecSplit (lgIn m) (woIn m)))
    m ρ main ghosts (atExit m) (u₀ (F := F)) (sep_elim_left.trans (hu₀ m)) (hmain m ρ) (fq m) (hfin m) (Ends m) (fun _ h hz => ⟨h, hz⟩)

end Cert.Proof.Moe

end
-- ==== Proof.Frame.lean ====
/-
  The frames: no run of the kernel changes an argument, over any floats, so both over the extended reals and over bits.
-/
module

public import proofs.«01_k».proof.Defs
public import proofs.«01_k».proof.Proof.Main

@[expose] public section

set_option maxRecDepth 16384

noncomputable section

namespace Cert.Proof.Moe

open Cert.KernelIdeal Cert.KernelIdeal.Gen
open Idealize.ShloMosaic Idealize.ShloMosaic.TcCoe
open Idealize.ShloMosaic.Pipeline (ucRefs arrRef)
open Idealize.SL.Sem

variable {F : FTy → Type} [FloatOps F] [Named F] (m : (ℓ : Loc nD τ sig) → Buf (Elt F) ℓ)

/-- A buffer no output window of the first call holds keeps its contents across the call. -/
theorem exit0_keep (V : Vln F) (c : Dev nD) (b : Ref sig .tc) (h : ∀ w, arrRef spec0 w = b → (spec0 w).isOut = false) :
    exit0 V c (dr b) = V c (dr b) := by
  by_cases hb : ∃ w, arrRef spec0 w = b
  · obtain ⟨w, rfl⟩ := hb
    refine (Pipeline.Dat.withArrays_arrAt (dat0 (valsOf V) (fun c => K.Otc c 0) (recAt 0) c) sharedIn0 (V c) (fun _ => rfl) w).trans ?_
    exact (dat0 (valsOf V) (fun c => K.Otc c 0) (recAt 0) c).arrAt_in w (h w rfl) _
  · exact Pipeline.withArrays_of_ne spec0 c (V c) _ b fun w e => hb ⟨w, e⟩

/-- The same of the second call. -/
theorem exit2_keep (V : Vln F) (c : Dev nD) (b : Ref sig .tc) (h : ∀ w, arrRef spec2 w = b → (spec2 w).isOut = false) :
    exit2 V c (dr b) = V c (dr b) := by
  by_cases hb : ∃ w, arrRef spec2 w = b
  · obtain ⟨w, rfl⟩ := hb
    refine (Pipeline.Dat.withArrays_arrAt (dat2 (valsOf V) (fun c => K.Otc c 1) (recAt 1) c) sharedIn2 (V c) (fun _ => rfl) w).trans ?_
    exact (dat2 (valsOf V) (fun c => K.Otc c 1) (recAt 1) c).arrAt_in w (h w rfl) _
  · exact Pipeline.withArrays_of_ne spec2 c (V c) _ b fun w e => hb ⟨w, e⟩

/-- A host reshape into one buffer leaves every other. -/
theorem reshape_keep (x y : Ref sig .tc) (e : x.ty.elt = y.ty.elt) (h) (hx) (hy) (V : Valuation τ sig (Elt F)) (b : Ref sig .tc) (hb : b ≠ y) :
    (StableHlo.reshape (τ := τ) (Val := Elt F) x y e h hx hy).result V (dr b) = V (dr b) :=
  StableHlo.result_of_writes_ne _ V y b rfl hb

/-- Before the first call, a buffer the four reshapes do not write is as launched. -/
theorem atFfn_keep (c : Dev nD) (b : Ref sig .tc) (h : b ∉ [main_v0, main_v1, main_v2, main_v3]) : atFfn m c (dr b) = m (c, dr b) := by
  simp only [List.mem_cons, List.not_mem_nil, _root_.or_false, not_or] at h
  unfold atFfn rs0 rs1 rs2 rs3
  rw [reshape_keep _ _ _ _ _ _ _ b h.2.2.2, reshape_keep _ _ _ _ _ _ _ b h.2.2.1, reshape_keep _ _ _ _ _ _ _ b h.2.1, reshape_keep _ _ _ _ _ _ _ b h.1]
  rfl

/-- Before the second call, a buffer neither call nor reshape writes is as launched. -/
theorem atExpert_keep (c : Dev nD) (b : Ref sig .tc) (h : b ∉ [main_v0, main_v1, main_v2, main_v3, main_v4_0, main_v4_1, main_v5, main_v6, main_v7])
    (hw : ∀ w, arrRef spec0 w = b → (spec0 w).isOut = false) : atExpert m c (dr b) = m (c, dr b) := by
  simp only [List.mem_cons, List.not_mem_nil, _root_.or_false, not_or] at h
  unfold atExpert rs6 rs7
  rw [reshape_keep _ _ _ _ _ _ _ b h.2.2.2.2.2.2.2.2, reshape_keep _ _ _ _ _ _ _ b h.2.2.2.2.2.2.2.1]
  unfold routerOut
  rw [Function.update_of_ne (StableHlo.devRef_ne_of_ne h.2.2.2.2.2.2.1)]
  exact (exit0_keep _ c b hw).trans (atFfn_keep m c b (by simp [h]))

/-- At the end, a buffer nothing writes is as launched. -/
theorem atEnd_keep (c : Dev nD) (b : Ref sig .tc)
    (h : b ∉ [main_v0, main_v1, main_v2, main_v3, main_v4_0, main_v4_1, main_v5, main_v6, main_v7]) (h9 : b ≠ main_v9)
    (hw : ∀ w, arrRef spec0 w = b → (spec0 w).isOut = false) (hw' : ∀ w, arrRef spec2 w = b → (spec2 w).isOut = false) :
    atEnd m c (dr b) = m (c, dr b) := by
  unfold atEnd rs9
  rw [reshape_keep _ _ _ _ _ _ _ b h9]
  exact (exit2_keep _ c b hw').trans (atExpert_keep m c b h hw)

/-- The arguments. -/
def args : List (Ref sig .tc) :=
  [main_arg0, main_arg1, main_arg2, main_arg3, main_arg4, main_arg5, main_arg6, main_arg7, main_arg8, main_arg9, main_arg10]

theorem args_apart : ∀ b ∈ args, b ∉ [main_v0, main_v1, main_v2, main_v3, main_v4_0, main_v4_1, main_v5, main_v6, main_v7] ∧ b ≠ main_v9
    ∧ (∀ w, arrRef spec0 w = b → (spec0 w).isOut = false) ∧ (∀ w, arrRef spec2 w = b → (spec2 w).isOut = false) ∧ dr b ∈ ucRefs τ sig := by
  decide

theorem arg_kept {s : PUnit × MemSt nD τ sig (Elt F)} (h : Ends m s) (c : Dev nD) (b : Ref sig .tc) (hb : b ∈ args) :
    s.2.mem ((c.tc : Thread nD τ).loc b) = m ((c.tc : Thread nD τ).loc b) :=
  have ⟨h1, h2, h3, h4, h5⟩ := args_apart b hb
  (h.1 c ⟨dr b, h5⟩).trans (atEnd_keep m c b h1 h2 h3 h4)

/-- Every argument at once. -/
theorem args_kept {s : PUnit × MemSt nD τ sig (Elt F)} (h : Ends m s) (c : Dev nD) :
    s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)
      ∧ s.2.mem ((c.tc : Thread nD τ).loc main_arg4) = m ((c.tc : Thread nD τ).loc main_arg4)
      ∧ s.2.mem ((c.tc : Thread nD τ).loc main_arg5) = m ((c.tc : Thread nD τ).loc main_arg5)
      ∧ s.2.mem ((c.tc : Thread nD τ).loc main_arg6) = m ((c.tc : Thread nD τ).loc main_arg6)
      ∧ s.2.mem ((c.tc : Thread nD τ).loc main_arg7) = m ((c.tc : Thread nD τ).loc main_arg7)
      ∧ s.2.mem ((c.tc : Thread nD τ).loc main_arg8) = m ((c.tc : Thread nD τ).loc main_arg8)
      ∧ s.2.mem ((c.tc : Thread nD τ).loc main_arg9) = m ((c.tc : Thread nD τ).loc main_arg9)
      ∧ s.2.mem ((c.tc : Thread nD τ).loc main_arg10) = m ((c.tc : Thread nD τ).loc main_arg10) :=
  ⟨arg_kept m h c _ (by decide), arg_kept m h c _ (by decide), arg_kept m h c _ (by decide), arg_kept m h c _ (by decide),
    arg_kept m h c _ (by decide), arg_kept m h c _ (by decide), arg_kept m h c _ (by decide), arg_kept m h c _ (by decide),
    arg_kept m h c _ (by decide), arg_kept m h c _ (by decide), arg_kept m h c _ (by decide)⟩

theorem frame_kernelIdeal : Cert.quiescent_KernelIdeal := fun m ρ _ =>
  (θ_run Cert.KernelIdeal.defs _ _).mono (fun _ h => ⟨args_kept m h, h.2⟩) (run_main (F := Ideal) m ρ)

end Cert.Proof.Moe

end
-- ==== Proof.Same.lean ====
/-
  The kernel over bits, with its constant named and without, is the same program.
-/
module

public import proofs.«01_k».proof.Defs
public import proofs.«01_k».proof.Proof.Gen.Kernel
public import proofs.«01_k».proof.Proof.Gen.KernelIdeal

@[expose] public section
set_option maxRecDepth 16384
noncomputable section

namespace Cert.Proof.Moe
open Cert.KernelIdeal Cert.KernelIdeal.Gen
open Idealize.ShloMosaic Idealize.ShloMosaic.TcCoe

/-- Over bits a named constant is its bits. -/
instance namedBits : Named Bits where
  named _ _ {φ} bits := Scalar.ofBits (F := Bits) φ bits

theorem ffn_same : Cert.Kernel.cc0__ffn_body (F := Bits) = Cert.KernelIdeal.cc0__ffn_body (F := Bits) := rfl
theorem exp_same : Cert.Kernel.cc2__expert_body (F := Bits) = Cert.KernelIdeal.cc2__expert_body (F := Bits) := rfl
theorem route_same : Cert.Kernel.cc1__router_sc_body (F := Bits) = Cert.KernelIdeal.cc1__router_sc_body (F := Bits) := rfl

theorem threads_same : Cert.Kernel.threads (F := Bits) = Cert.KernelIdeal.threads (F := Bits) := rfl

set_option maxHeartbeats 8000000 in
/-- Body by body. -/
theorem defs₀_same : Cert.Kernel.defs₀ (F := Bits) = Cert.KernelIdeal.defs₀ (F := Bits) := by
  funext p l a
  match p, l, a with
  | .tc, 0, (t, s) => exact congrArg (fun f => f (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (Memref.whole cc0_scratch0) (Memref.isWhole_whole _)) ffn_same
  | .tc, 1, _ => rfl
  | .tc, 2, (t, s) => exact congrArg (fun f => f (grid2.coords t) (win2_0.stage (s 0)) (hstage2_0 ((s 0).cast nbuf2_0)) (win2_1.stage (s 1)) (hstage2_1 ((s 1).cast nbuf2_1)) (win2_2.stage (s 2)) (hstage2_2 ((s 2).cast nbuf2_2)) (win2_3.stage (s 3)) (hstage2_3 ((s 3).cast nbuf2_3)) (win2_4.stage (s 4)) (hstage2_4 ((s 4).cast nbuf2_4)) (win2_5.stage (s 5)) (hstage2_5 ((s 5).cast nbuf2_5)) (win2_6.stage (s 6)) (hstage2_6 ((s 6).cast nbuf2_6)) (win2_7.stage (s 7)) (hstage2_7 ((s 7).cast nbuf2_7)) (win2_8.stage (s 8)) (hstage2_8 ((s 8).cast nbuf2_8)) (win2_9.stage (s 9)) (hstage2_9 ((s 9).cast nbuf2_9)) (Memref.whole cc2_scratch0) (Memref.isWhole_whole _) (Memref.whole cc2_scratch1) (Memref.isWhole_whole _)) exp_same
  | .scScalar _, 0, _ => rfl
  | .scScalar _, 1, _ => rfl
  | .scScalar _, 2, _ => rfl
  | .scVector c s, 0, _ => rfl
  | .scVector c s, 1, _ =>
    delta Cert.Kernel.defs₀; dsimp only; rw [route_same]; rfl
  | .scVector c s, 2, _ => rfl

theorem defs_same : Cert.Kernel.defs (F := Bits) = Cert.KernelIdeal.defs (F := Bits) :=
  congrArg (fun X => Cert.KernelIdeal.sc.defs (Pipeline.defs Cert.KernelIdeal.pcfgs X)) defs₀_same

end Cert.Proof.Moe

end
-- ==== Proof.KernelFrame.lean ====
/-
  The frame of the kernel over bits: its program is the one with the constant named, whose run is known.
-/
module

public import proofs.«01_k».proof.Proof.Frame
public import proofs.«01_k».proof.Proof.Same

@[expose] public section

set_option maxRecDepth 16384

noncomputable section

namespace Cert.Proof.Moe

open Idealize.ShloMosaic Idealize.ShloMosaic.TcCoe Idealize.SL.Sem

theorem frame_kernel : Cert.quiescent_Kernel := by
  intro m ρ _
  have h : θ_run (Cert.KernelIdeal.defs (F := Bits)) (Cert.KernelIdeal.threads (F := Bits)) ⟨m, fun _ => 0, ρ⟩ _ :=
    (θ_run Cert.KernelIdeal.defs _ _).mono (fun _ h => (⟨args_kept m h, h.2⟩ : _ ∧ _)) (run_main (F := Bits) m ρ)
  exact (congrArg (fun D => θ_run D (Cert.KernelIdeal.threads (F := Bits)) ⟨m, fun _ => 0, ρ⟩ _) defs_same).mpr h

end Cert.Proof.Moe

end
-- ==== Proof.RefFrame.lean ====
/-
  The reference's frame, read off its run.
-/
module

public import proofs.«01_k».proof.Defs
public import proofs.«01_k».proof.Proof.Gen.ReferenceIdeal.Run
public import Idealize.ShloMosaic.Lib.Quiescent

@[expose] public section

noncomputable section

namespace Cert.Proof.Moe

open Idealize.ShloMosaic Idealize.SL.Sem

/-- The reference ends with its arguments as they were; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant has the value the table gives it. -/
theorem preserves_named : Cert.preserves_Kernel_KernelIdeal := IdealRules.named_const.statement _ _ _ _ _ rfl

end Cert.Proof.Moe

end
-- ==== Proof.TopTwo.lean ====
/-
  The two largest of a list of extended reals: what two scans from left to right find, and what a stable sort by
  «greater» puts first.
-/
module

public import Idealize.ShloMosaic.Lib.SortPrefix
public import Mathlib.Data.EReal.Basic

@[expose] public section

noncomputable section

namespace Cert.Proof.Moe

open Idealize.ShloMosaic

/-! ## A stable sort does not look at ties -/

/-- Inserting reads the relation only between the list's elements and the new one. -/
theorem insertBefore_congr {ι : Type} (R R' : ι → ι → Bool) (a : ι) (l : List ι) (h : ∀ b ∈ l, R b a = R' b a) :
    insertBefore R a l = insertBefore R' a l := by
  induction l with
  | nil => rfl
  | cons b l ih =>
    unfold insertBefore
    rw [h b (List.mem_cons_self), ih fun c hc => h c (List.mem_cons_of_mem b hc)]

/-- Two relations that agree on «a later position before an earlier one» sort alike. -/
theorem stableSort_congr_later {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_congr_later {n : ℕ} (R R' : Fin n → Fin n → Bool) (h : ∀ a b, a < b → R b a = R' b a) (k : Fin n) :
    sortedFrom R k = sortedFrom R' k := by
  have e : sortPositions n R = sortPositions n R' := stableSort_congr_later R R' h _ (List.pairwise_lt_finRange n)
  unfold sortedFrom
  simp only [List.get_eq_getElem, Fin.val_cast, e]

/-! ## «Beats»: larger, or as large and earlier -/

/-- Position `i` of `f` comes before position `p` in the order of the two largest. -/
def Beats (f : ℕ → EReal) (i p : ℕ) : Prop := f p < f i ∨ (f p = f i ∧ i < p)

/-- The positions a stable descending sort puts first and second: the one that beats all others, and the one that beats
    all others but it. -/
theorem sort_two {n : ℕ} (hn : 2 ≤ n) (f : ℕ → EReal) (i1 i2 : Fin n) (hne : i1 ≠ i2)
    (h1 : ∀ p < n, p ≠ i1.val → Beats f i1 p) (h2 : ∀ p < n, p ≠ i1.val → p ≠ i2.val → Beats f i2 p) :
    sortedFrom (fun a b : Fin n => decide (f b < f a)) ⟨0, by omega⟩ = i1 ∧
    sortedFrom (fun a b : Fin n => decide (f b < f a)) ⟨1, by omega⟩ = i2 := by
  have hB := StrictTotalBefore.of_key_then_position (n := n) (fun x y : EReal => decide (y < x)) (fun a => f a.val)
    (by simp) (by simpa using fun a b c hab hbc => lt_trans hbc hab)
    (fun a b => by rcases lt_trichotomy a b with h | h | h <;> simp [h])
  have he : ∀ a b : Fin n, a < b → decide (f a < f b) =
      ((fun k k' : Fin n => decide (f k'.val < f k.val) || (decide (f k.val = f k'.val) && decide (k < k'))) b a) := by
    intro a b hab
    have : ¬ b < a := not_lt.mpr hab.le
    simp [this]
  have no : ∀ (i : Fin n) (p : Fin n), Beats f i p →
      ((fun k k' : Fin n => decide (f k'.val < f k.val) || (decide (f k.val = f k'.val) && decide (k < k'))) p i) = false := by
    intro i p h
    rcases h with h | ⟨h, hl⟩
    · simp [h.le, h.ne]
    · have : ¬ p < i := not_lt.mpr (Fin.le_of_lt hl)
      simp [h, this]
  have hd2 : (i2 : ℕ) ≠ i1 := fun h => hne (Fin.ext h.symm)
  have key := hB.sortedFrom_eq_of_prefix hn (![i1, i2] : Fin 2 → Fin n) (by
      intro a b h
      match a, b with
      | 0, 0 => rfl
      | 1, 1 => rfl
      | 0, 1 => exact absurd h hne
      | 1, 0 => exact absurd h.symm hne) (by
      intro a b h
      match a, b with
      | 0, 0 => exact absurd h (by decide)
      | 1, 1 => exact absurd h (by decide)
      | 0, 1 => exact no i1 i2 (h1 _ i2.isLt hd2)
      | 1, 0 => exact absurd h (by decide)) (by
      intro a p h
      have p1 : (p : ℕ) ≠ i1 := fun e => h 0 (Fin.ext e.symm)
      have p2 : (p : ℕ) ≠ i2 := fun e => h 1 (Fin.ext e.symm)
      match a with
      | 0 => exact no i1 p (h1 _ p.isLt p1)
      | 1 => exact no i2 p (h2 _ p.isLt p1 p2))
  exact ⟨(sortedFrom_congr_later _ _ he _).trans (key 0), (sortedFrom_congr_later _ _ he _).trans (key 1)⟩

/-! ## The scans -/

/-- The first position of the largest of `f 0 … f n`. -/
def topI (f : ℕ → EReal) : ℕ → ℕ
  | 0 => 0
  | n + 1 => if f (topI f n) < f (n + 1) then n + 1 else topI f n

theorem topI_le (f : ℕ → EReal) (n : ℕ) : topI f n ≤ n := by
  induction n with
  | zero => exact le_rfl
  | succ n ih => unfold topI; split <;> omega

theorem topI_beats (f : ℕ → EReal) (n : ℕ) : ∀ p ≤ n, p ≠ topI f n → Beats f (topI f n) p := by
  induction n with
  | zero => intro p hp hne; exact absurd (Nat.le_zero.mp hp) hne
  | succ n ih =>
    intro p hp hne
    unfold topI at hne ⊢
    split at hne
    next h =>
      rw [if_pos h]
      left
      by_cases e : p = topI f n
      · rw [e]; exact h
      · rcases ih p (by omega) e with h' | ⟨h', -⟩
        · exact h'.trans h
        · rw [h']; exact h
    next h =>
      rw [if_neg h]
      by_cases e : p = n + 1
      · subst e
        have := topI_le f n
        rcases lt_or_eq_of_le (not_lt.mp h) with h' | h'
        · exact Or.inl h'
        · exact Or.inr ⟨h', by omega⟩
      · exact ih p (by omega) hne

/-- `f n`, or the lowest value where `n` is `i`. -/
def but (f : ℕ → EReal) (i n : ℕ) : EReal := if i = n then ⊥ else f n

/-- The largest of `f` below `n` but for position `i`. -/
def restV (f : ℕ → EReal) (i : ℕ) : ℕ → EReal
  | 0 => ⊥
  | n + 1 => if restV f i n < but f i n then but f i n else restV f i n

/-- Its first position. -/
def restI (f : ℕ → EReal) (i : ℕ) : ℕ → ℕ
  | 0 => 0
  | n + 1 => if restV f i n < but f i n then n else restI f i n

theorem rest_spec (f : ℕ → EReal) (hf : ∀ n, f n ≠ ⊥) (i n : ℕ) :
    (restV f i n = ⊥ ∧ ∀ p < n, p = i) ∨
    (restI f i n < n ∧ restI f i n ≠ i ∧ restV f i n = f (restI f i n) ∧
      ∀ p < n, p ≠ i → p ≠ restI f i n → Beats f (restI f i n) p) := by
  induction n with
  | zero => exact Or.inl ⟨rfl, fun p hp => absurd hp (Nat.not_lt_zero p)⟩
  | succ n ih =>
    by_cases hi : i = n
    · have hb : but f i n = ⊥ := if_pos hi
      have hv : restV f i (n + 1) = restV f i n := by
        rw [restV, if_neg (by rw [hb]; exact not_lt_bot)]
      have hx : restI f i (n + 1) = restI f i n := by
        rw [restI, if_neg (by rw [hb]; exact not_lt_bot)]
      rw [hv, hx]
      rcases ih with ⟨h1, h2⟩ | ⟨h1, h2, h3, h4⟩
      · exact Or.inl ⟨h1, fun p hp => by
          rcases Nat.lt_succ_iff_lt_or_eq.mp hp with h | h
          · exact h2 p h
          · omega⟩
      · exact Or.inr ⟨by omega, h2, h3, fun p hp hpi hpr => h4 p (by omega) hpi hpr⟩
    · have hb : but f i n = f n := if_neg hi
      right
      by_cases hlt : restV f i n < f n
      · have hv : restV f i (n + 1) = f n := by unfold restV; rw [hb, if_pos hlt]
        have hx : restI f i (n + 1) = n := by rw [restI, hb, if_pos hlt]
        rw [hv, hx]
        refine ⟨by omega, fun h => hi h.symm, rfl, fun p hp hpi hpn => Or.inl ?_⟩
        rcases ih with ⟨h1, h2⟩ | ⟨h1, h2, h3, h4⟩
        · exact absurd (h2 p (by omega)) hpi
        · rw [h3] at hlt
          by_cases e : p = restI f i n
          · rw [e]; exact hlt
          · rcases h4 p (by omega) hpi e with h | ⟨h, -⟩
            · exact h.trans hlt
            · rw [h]; exact hlt
      · have hv : restV f i (n + 1) = restV f i n := by
          conv_lhs => unfold restV
          rw [hb, if_neg hlt]
        have hx : restI f i (n + 1) = restI f i n := by rw [restI, hb, if_neg hlt]
        rw [hv, hx]
        rcases ih with ⟨h1, h2⟩ | ⟨h1, h2, h3, h4⟩
        · exact absurd (by rw [h1]; exact bot_lt_iff_ne_bot.mpr (hf n)) hlt
        · refine ⟨by omega, h2, h3, fun p hp hpi hpr => ?_⟩
          by_cases e : p = n
          · subst e
            rw [h3] at hlt
            rcases lt_or_eq_of_le (not_lt.mp hlt) with h | h
            · exact Or.inl h
            · exact Or.inr ⟨h, h1⟩
          · exact h4 p (by omega) hpi hpr

/-- The first of the two largest of sixty-four. -/
def best (f : ℕ → EReal) : ℕ := topI f 63
/-- The second. -/
def next (f : ℕ → EReal) : ℕ := restI f (best f) 64

theorem best_lt (f : ℕ → EReal) : best f < 64 := Nat.lt_succ_of_le (topI_le f 63)

theorem next_spec (f : ℕ → EReal) (hf : ∀ n, f n ≠ ⊥) :
    next f < 64 ∧ next f ≠ best f ∧ restV f (best f) 64 = f (next f) ∧
      ∀ p < 64, p ≠ best f → p ≠ next f → Beats f (next f) p := by
  rcases rest_spec f hf (best f) 64 with ⟨-, h⟩ | h
  · have h0 := h 0 (by omega)
    have h1 := h 1 (by omega)
    omega
  · exact h

/-- A stable descending sort of sixty-four puts them first. -/
theorem sort_best_next (f : ℕ → EReal) (hf : ∀ n, f n ≠ ⊥) :
    sortedFrom (fun a b : Fin 64 => decide (f b < f a)) 0 = ⟨best f, best_lt f⟩ ∧
    sortedFrom (fun a b : Fin 64 => decide (f b < f a)) 1 = ⟨next f, (next_spec f hf).1⟩ := by
  have h := next_spec f hf
  exact sort_two (n := 64) (by omega) f ⟨best f, best_lt f⟩ ⟨next f, h.1⟩
    (fun e => h.2.1 (Fin.mk.inj_iff.mp e).symm)
    (fun p hp hne => topI_beats f 63 p (by omega) hne) (fun p hp h1 h2 => h.2.2.2 p hp h1 h2)

end Cert.Proof.Moe

end
-- ==== Proof.Model.lean ====
/-
  The layer on extended reals, in plain sums: tokens, logits, the two gates, each expert's output for each token, and the
  weighted sum of the two chosen experts' outputs. And the one piece of algebra between «all experts, weighted, most weights
  zero» and «the two chosen experts, each with its gate».
-/
module

public import proofs.«01_k».proof.Proof.TopTwo
public import Idealize.ShloMosaic.Lib.Pointwise

@[expose] public section

noncomputable section

namespace Cert.Proof.Moe

open Idealize.ShloMosaic

/-- Arrays of extended reals of one, two and three axes. -/
abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal

/-- The layer's eleven arguments. -/
structure Args where
  x : Arr3 16 8 1024
  w1 : Arr2 1024 4096
  b1 : Arr1 4096
  w2 : Arr2 4096 1024
  b2 : Arr1 1024
  wg : Arr2 1024 64
  bg : Arr1 64
  e1 : Arr3 64 1024 1024
  c1 : Arr2 64 1024
  e2 : Arr3 64 1024 1024
  c2 : Arr2 64 1024

variable (A : Args)

/-- Token `n`'s input row. -/
def row (n : Fin 128) (k : Fin 1024) : EReal := A.x (ix3 (⟨n.val / 8, by omega⟩ : Fin 16) (⟨n.val % 8, by omega⟩ : Fin 8) k)
/-- Its hidden row in the first block. -/
def mid (n : Fin 128) (f : Fin 4096) : EReal := max ((∑ k : Fin 1024, row A n k * A.w1 (ix2 k f)) + A.b1 (ix1 f)) 0
/-- Its row after the first block. -/
def tok (n : Fin 128) (d : Fin 1024) : EReal := (∑ f : Fin 4096, mid A n f * A.w2 (ix2 f d)) + A.b2 (ix1 d)
/-- Its logit for expert `e`. -/
def logit (n : Fin 128) (e : Fin 64) : EReal := (∑ d : Fin 1024, tok A n d * A.wg (ix2 d e)) + A.bg (ix1 e)
/-- Its logits by number. -/
def logits (n : Fin 128) (e : ℕ) : EReal := logit A n (Fin.ofNat 64 e)
/-- Expert `e`'s hidden row for token `n`. -/
def hid (e : Fin 64) (n : Fin 128) (f : Fin 1024) : EReal :=
  max ((∑ d : Fin 1024, tok A n d * A.e1 (ix3 e d f)) + A.c1 (ix2 e f)) 0
/-- Expert `e`'s output for token `n`. -/
def out (e : Fin 64) (n : Fin 128) (d : Fin 1024) : EReal :=
  (∑ f : Fin 1024, hid A e n f * A.e2 (ix3 e f d)) + A.c2 (ix2 e d)

/-- The two gates of two logits. -/
def lead (l1 l2 : EReal) : EReal := Ideal.div 1 (1 + Ideal.exp (l2 - l1))
def tail (l1 l2 : EReal) : EReal := Ideal.div (Ideal.exp (l2 - l1)) (1 + Ideal.exp (l2 - l1))

/-- The expert with token `n`'s largest logit, and the one with the next. -/
def pick1 (n : Fin 128) : Fin 64 := Fin.ofNat 64 (best (logits A n))
def pick2 (n : Fin 128) : Fin 64 := Fin.ofNat 64 (next (logits A n))

/-- The layer's output. -/
def result (n : Fin 128) (d : Fin 1024) : EReal :=
  lead (logit A n (pick1 A n)) (logit A n (pick2 A n)) * out A (pick1 A n) n d +
  tail (logit A n (pick1 A n)) (logit A n (pick2 A n)) * out A (pick2 A n) n d

/-! ## The gates of two real logits -/

theorem one_add_exp_pos (x : ℝ) : (0 : ℝ) < 1 + Real.exp x := by positivity

theorem lead_coe (a b : ℝ) : lead a b = ((1 / (1 + Real.exp (b - a)) : ℝ) : EReal) := by
  unfold lead
  rw [← EReal.coe_sub, Ideal.exp_coe, ← EReal.coe_one, ← EReal.coe_add, Ideal.div_coe (one_add_exp_pos _).ne', EReal.coe_one,
    one_mul]

theorem tail_coe (a b : ℝ) : tail a b = ((Real.exp (b - a) * (1 / (1 + Real.exp (b - a))) : ℝ) : EReal) := by
  unfold tail
  rw [← EReal.coe_sub, Ideal.exp_coe, ← EReal.coe_one, ← EReal.coe_add, Ideal.div_coe (one_add_exp_pos _).ne', EReal.coe_mul]

theorem lead_nonneg (a b : ℝ) : 0 ≤ lead a b := by
  rw [lead_coe]; exact EReal.coe_nonneg.mpr (by have := one_add_exp_pos (b - a); positivity)
theorem tail_nonneg (a b : ℝ) : 0 ≤ tail a b := by
  rw [tail_coe]; exact EReal.coe_nonneg.mpr (by have := one_add_exp_pos (b - a); positivity)
theorem lead_ne_top (a b : ℝ) : lead a b ≠ ⊤ := by rw [lead_coe]; exact EReal.coe_ne_top _
theorem tail_ne_top (a b : ℝ) : tail a b ≠ ⊤ := by rw [tail_coe]; exact EReal.coe_ne_top _

/-! ## All experts weighted, and the two chosen -/

/-- A sum against weights that are zero but at two places is the two terms there. -/
theorem sum_two {ι : Type} [Fintype ι] [DecidableEq ι] (i1 i2 : ι) (g1 g2 : EReal) (hne : i1 ≠ i2) (T : EReal → ι → EReal)
    (h0 : ∀ e, T 0 e = 0) :
    ∑ e, T ((if i1 = e then g1 else 0) + (if i2 = e then g2 else 0)) e = T g1 i1 + T g2 i2 := by
  rw [Finset.sum_eq_add (a := i1) (b := i2) hne]
  · rw [if_pos rfl, if_neg (Ne.symm hne), if_neg hne, if_pos rfl, add_zero, zero_add]
  · intro e _ he
    rw [if_neg (Ne.symm he.1), if_neg (Ne.symm he.2), add_zero, h0]
  · intro h; exact absurd (Finset.mem_univ _) h
  · intro h; exact absurd (Finset.mem_univ _) h

/-- A finite factor that is not negative goes into a sum. -/
theorem mul_sum_of_nonneg {ι : Type} (s : Finset ι) (g : EReal) (h : 0 ≤ g) (ht : g ≠ ⊤) (f : ι → EReal) :
    g * ∑ i ∈ s, f i = ∑ i ∈ s, g * f i := by
  classical
  induction s using Finset.induction_on with
  | empty => simp
  | insert a s ha ih => rw [Finset.sum_insert ha, Finset.sum_insert ha, EReal.left_distrib_of_nonneg_of_ne_top h ht, ih]

/-- One expert's weighted hidden row against its second matrix, and its weighted bias, make its weighted output. -/
theorem weighted_out (e : Fin 64) (n : Fin 128) (d : Fin 1024) (g : EReal) (h : 0 ≤ g) (ht : g ≠ ⊤) :
    g * A.c2 (ix2 e d) + ∑ f : Fin 1024, hid A e n f * g * A.e2 (ix3 e f d) = g * out A e n d := by
  unfold out
  rw [EReal.left_distrib_of_nonneg_of_ne_top h ht, mul_sum_of_nonneg _ g h ht, add_comm]
  exact congrArg (· + _) (Finset.sum_congr rfl fun f _ => by rw [mul_comm (hid A e n f) g, mul_assoc])

/-- The weight of expert `e` for token `n`. -/
def weight (n : Fin 128) (e : Fin 64) : EReal :=
  (if pick1 A n = e then lead (logit A n (pick1 A n)) (logit A n (pick2 A n)) else 0) +
  (if pick2 A n = e then tail (logit A n (pick1 A n)) (logit A n (pick2 A n)) else 0)

theorem logits_ne_bot (hl : ∀ n e, ∃ r : ℝ, logit A n e = r) (n : Fin 128) (e : ℕ) : logits A n e ≠ ⊥ := by
  obtain ⟨r, hr⟩ := hl n (Fin.ofNat 64 e)
  unfold logits; rw [hr]; exact EReal.coe_ne_bot r

theorem pick_ne (hl : ∀ n e, ∃ r : ℝ, logit A n e = r) (n : Fin 128) : pick1 A n ≠ pick2 A n := by
  have h := next_spec (logits A n) (logits_ne_bot A hl n)
  intro e
  have := congrArg Fin.val e
  simp only [pick1, pick2, Fin.val_ofNat, Nat.mod_eq_of_lt (best_lt _), Nat.mod_eq_of_lt h.1] at this
  exact h.2.1 this.symm

/-- All experts weighted are the layer's output. -/
theorem sum_weighted (hl : ∀ n e, ∃ r : ℝ, logit A n e = r) (n : Fin 128) (d : Fin 1024) :
    (∑ e : Fin 64, weight A n e * A.c2 (ix2 e d)) +
      ∑ e : Fin 64, ∑ f : Fin 1024, hid A e n f * weight A n e * A.e2 (ix3 e f d) = result A n d := by
  rw [← Finset.sum_add_distrib]
  obtain ⟨a, ha⟩ := hl n (pick1 A n)
  obtain ⟨b, hb⟩ := hl n (pick2 A n)
  unfold weight
  rw [sum_two (pick1 A n) (pick2 A n) _ _ (pick_ne A hl n)
    (fun g e => g * A.c2 (ix2 e d) + ∑ f : Fin 1024, hid A e n f * g * A.e2 (ix3 e f d))
    (fun e => by simp)]
  unfold result
  rw [ha, hb, weighted_out A _ n d _ (lead_nonneg a b) (lead_ne_top a b),
    weighted_out A _ n d _ (tail_nonneg a b) (tail_ne_top a b)]

end Cert.Proof.Moe

end
-- ==== Proof.RefRead.lean ====
/-
  The reference program's composed result, in stages, and each stage at an index.
-/
module

public import proofs.«01_k».proof.Proof.Model
public import proofs.«01_k».proof.Proof.Gen.ReferenceIdeal.Run

@[expose] public section

set_option maxRecDepth 16384

noncomputable section

namespace Cert.Proof.Moe.Ref

open Cert.ReferenceIdeal Cert.ReferenceIdeal.Gen
open Idealize.ShloMosaic Idealize.ShloMosaic.TcCoe

variable (A : Args)

/-- The tokens after the first block, as one array. -/
def tokens : FVec Ideal S128x1024 .f32 :=
  shapeCast S128x1024 (addf (Host.dotGeneral (φ₁ := .f32) (φ₂ := .f32) dot_S16x8x4096_S4096x1024_S16x8x1024_2_0_01_1_n_n none (maximumf (addf (Host.dotGeneral (φ₁ := .f32) (φ₂ := .f32) dot_S16x8x1024_S1024x4096_S16x8x4096_2_0_01_1_n_n none (A.x : FVec Ideal S16x8x1024 .f32) (A.w1 : FVec Ideal S1024x4096 .f32)) (broadcastInDim S16x8x4096 ![0, 1, 2] bcast_S1x1x4096_S16x8x4096_0_1_2 (broadcastInDim S1x1x4096 ![2] bcast_S4096_S1x1x4096_2 (A.b1 : FVec Ideal S4096 .f32)))) (broadcastInDim S16x8x4096 ![] bcast_S_S16x8x4096 (constant S_ .f32 0x00000000#32))) (A.w2 : FVec Ideal S4096x1024 .f32)) (broadcastInDim S16x8x1024 ![0, 1, 2] bcast_S1x1x1024_S16x8x1024_0_1_2 (broadcastInDim S1x1x1024 ![2] bcast_S1024_S1x1x1024_2 (A.b2 : FVec Ideal S1024 .f32)))) shapeCasts_S16x8x1024_S128x1024

/-- The logits of all tokens. -/
def scores : FVec Ideal S128x64 .f32 :=
  addf (Host.dotGeneral (φ₁ := .f32) (φ₂ := .f32) dot_S128x1024_S1024x64_S128x64_1_0_0_1_n_n none (tokens A) (A.wg : FVec Ideal S1024x64 .f32)) (broadcastInDim S128x64 ![0, 1] bcast_S1x64_S128x64_0_1 (broadcastInDim S1x64 ![1] bcast_S64_S1x64_1 (A.bg : FVec Ideal S64 .f32)))

/-- The two largest logits of each token with their experts. -/
def two (L : FVec Ideal S128x64 .f32) : FVec Ideal S128x2 .f32 × IVec S128x2 32 :=
  Host.topK S128x2 1 (FloatOps.cmpfTotal .gt) L sliceFits_S128x64_S128x2

/-- The exponentials of two values less the larger. -/
def powers (V : FVec Ideal S128x2 .f32) : FVec Ideal S128x2 .f32 :=
  Host.exp (subf V (broadcastInDim S128x2 ![0, 1] bcast_S128x1_S128x2_0_1 (broadcastInDim S128x1 ![0] bcast_S128_S128x1_0 (maximumf (broadcastInDim S128 ![] bcast_S_S128 (constant S_ .f32 0xFF800000#32)) (Host.reduce FloatOps.maximumf V (constant S_ .f32 0xFF800000#32) reducesTo_S128x2_S128_d1 h_S_)))))

/-- Each over their sum. -/
def gates (V : FVec Ideal S128x2 .f32) : FVec Ideal S128x2 .f32 :=
  Host.divf (powers V) (broadcastInDim S128x2 ![0, 1] bcast_S128x1_S128x2_0_1 (broadcastInDim S128x1 ![0] bcast_S128_S128x1_0 (Host.reduceAdd (powers V) (constant S_ .f32 0x00000000#32) reducesTo_S128x2_S128_d1 h_S_)))

/-- All experts' outputs for all tokens. -/
def outs : FVec Ideal S128x64x1024 .f32 :=
  transpose S128x64x1024 [1, 0, 2] (addf (Host.dotGeneral (φ₁ := .f32) (φ₂ := .f32) dot_S64x128x1024_S64x1024x1024_S64x128x1024_2_1_1_2_0_0 none (maximumf (addf (transpose S64x128x1024 [0, 2, 1] (Host.dotGeneral (φ₁ := .f32) (φ₂ := .f32) dot_S64x1024x1024_S128x1024_S64x1024x128_1_1_02_0_n_n none (A.e1 : FVec Ideal S64x1024x1024 .f32) (tokens A)) transposes_S64x1024x128_S64x128x1024_0_2_1) (broadcastInDim S64x128x1024 ![0, 1, 2] bcast_S64x1x1024_S64x128x1024_0_1_2 (broadcastInDim S64x1x1024 ![0, 2] bcast_S64x1024_S64x1x1024_0_2 (A.c1 : FVec Ideal S64x1024 .f32)))) (broadcastInDim S64x128x1024 ![] bcast_S_S64x128x1024 (constant S_ .f32 0x00000000#32))) (A.e2 : FVec Ideal S64x1024x1024 .f32)) (broadcastInDim S64x128x1024 ![0, 1, 2] bcast_S64x1x1024_S64x128x1024_0_1_2 (broadcastInDim S64x1x1024 ![0, 2] bcast_S64x1024_S64x1x1024_0_2 (A.c2 : FVec Ideal S64x1024 .f32)))) transposes_S64x128x1024_S128x64x1024_1_0_2

/-- The experts' numbers with negative ones counted from the end. -/
def wrapped (I : IVec S128x2 32) : IVec S128x2x1 32 :=
  select (cmpi .slt (broadcastInDim S128x2x1 ![0, 1] bcast_S128x2_S128x2x1_0_1 I) (broadcastInDim S128x2x1 ![] bcast_S_S128x2x1 (constantI S_ 32 0#32))) (addi (broadcastInDim S128x2x1 ![0, 1] bcast_S128x2_S128x2x1_0_1 I) (broadcastInDim S128x2x1 ![] bcast_S_S128x2x1 (constantI S_ 32 64#32))) (broadcastInDim S128x2x1 ![0, 1] bcast_S128x2_S128x2x1_0_1 I)

/-- Where they are in range. -/
def within (J : IVec S128x2x1 32) : IVec S128x2 1 :=
  Host.reduce IntOp.andi (andi (cmpi .sge J (broadcastInDim S128x2x1 ![] bcast_S_S128x2x1 (constantI S_ 32 0#32))) (cmpi .sle J (broadcastInDim S128x2x1 ![0, 1, 2] bcast_S1x1x1_S128x2x1_0_1_2 (broadcastInDim S1x1x1 ![2] bcast_S1_S1x1x1_2 (constantI S1 32 63#32))))) (constantI S_ 1 1#1) reducesTo_S128x2x1_S128x2_d2 h_S_

/-- The chosen experts' outputs. -/
def chosen (O : FVec Ideal S128x64x1024 .f32) (J : IVec S128x2x1 32) : FVec Ideal S128x2x1024 .f32 :=
  select (broadcastInDim S128x2x1024 ![0, 1] bcast_S128x2_S128x2x1024_0_1 (within J)) (Host.gather gather_S128x64x1024_S128x2x1_S128x2x1024_2_1_0_0_1_2_111024 O J) (broadcastInDim S128x2x1024 ![] bcast_S_S128x2x1024 (constant S_ .f32 0x7FC00000#32))

/-- The gates' weighted sum of them. -/
def mixed (G : FVec Ideal S128x2 .f32) (C : FVec Ideal S128x2x1024 .f32) : FVec Ideal S16x8x1024 .f32 :=
  shapeCast S16x8x1024 (Host.reduceAdd (mulf (broadcastInDim S128x2x1024 ![0, 1, 2] bcast_S128x2x1_S128x2x1024_0_1_2 (broadcastInDim S128x2x1 ![0, 1] bcast_S128x2_S128x2x1_0_1 G)) C) (constant S_ .f32 0x00000000#32) reducesTo_S128x2x1024_S128x1024_d1 h_S_) shapeCasts_S128x1024_S16x8x1024

/-- The whole. -/
def whole : FVec Ideal S16x8x1024 .f32 :=
  mixed (gates (two (scores A)).1) (chosen (outs A) (wrapped (two (scores A)).2))

/-- The arguments in memory. -/
def argsOf (m : (ℓ : Loc nD τ sig) → Buf (Elt Ideal) ℓ) (c : Dev nD) : Args where
  x := m ((c.tc : Thread nD τ).loc main_arg0)
  w1 := m ((c.tc : Thread nD τ).loc main_arg1)
  b1 := m ((c.tc : Thread nD τ).loc main_arg2)
  w2 := m ((c.tc : Thread nD τ).loc main_arg3)
  b2 := m ((c.tc : Thread nD τ).loc main_arg4)
  wg := m ((c.tc : Thread nD τ).loc main_arg5)
  bg := m ((c.tc : Thread nD τ).loc main_arg6)
  e1 := m ((c.tc : Thread nD τ).loc main_arg7)
  c1 := m ((c.tc : Thread nD τ).loc main_arg8)
  e2 := m ((c.tc : Thread nD τ).loc main_arg9)
  c2 := m ((c.tc : Thread nD τ).loc main_arg10)

theorem res_eq_whole (m : (ℓ : Loc nD τ sig) → Buf (Elt Ideal) ℓ) (c : Dev nD) :
    Value.res_main_v44 m c = whole (argsOf m c) := by
  unfold Value.res_main_v44
  rfl

/-! ## The stages at an index -/

theorem tokens_apply (n : Fin 128) (d : Fin 1024) : tokens A (ix2 n d) = tok A n d := by
  pointwise [tokens]
  rfl

theorem scores_apply (n : Fin 128) (e : Fin 64) : scores A (ix2 n e) = logit A n e := by
  pointwise [scores]
  simp only [tokens_apply]
  rfl

theorem outs_apply (n : Fin 128) (e : Fin 64) (d : Fin 1024) : outs A (ix3 n e d) = out A e n d := by
  pointwise [outs]
  simp only [tokens_apply]
  unfold out hid
  refine congrArg (· + _) (Finset.sum_congr rfl fun f _ => congrArg (fun z => max (z + _) 0 * _) ?_)
  exact Finset.sum_congr rfl fun k _ => mul_comm _ _

theorem mixed_apply (G : FVec Ideal S128x2 .f32) (C : FVec Ideal S128x2x1024 .f32) (a : Fin 16) (b : Fin 8) (d : Fin 1024) (n : Fin 128)
    (hn : n.val = a.val * 8 + b.val) :
    mixed G C (ix3 a b d) = G (ix2 n 0) * C (ix3 n 0 d) + G (ix2 n 1) * C (ix3 n 1 d) := by
  have hlt : a.val * 8 + b.val < 128 := hn ▸ n.isLt
  obtain rfl : (⟨a.val * 8 + b.val, hlt⟩ : Fin 128) = n := Fin.ext hn.symm
  pointwise [mixed]
  exact Fin.sum_univ_two _

theorem lowest : Ideal.ofBits .f32 0xFF800000#32 = ⊥ := by
  unfold Ideal.ofBits Ideal.ieee
  simp

theorem highest : Ideal.ofBits .f32 0x7F800000#32 = ⊤ := by
  unfold Ideal.ofBits Ideal.ieee
  simp

theorem powers_apply (V : FVec Ideal S128x2 .f32) (n : Fin 128) (j : Fin 2) :
    powers V (ix2 n j) = Ideal.exp (V (ix2 n j) - max (V (ix2 n 0)) (V (ix2 n 1))) := by
  pointwise [powers]
  rw [lowest, show (Finset.univ : Finset (Fin 2)) = {0, 1} from rfl]
  simp

theorem gates_apply (V : FVec Ideal S128x2 .f32) (n : Fin 128) (j : Fin 2) :
    gates V (ix2 n j) = Ideal.div (powers V (ix2 n j)) (powers V (ix2 n 0) + powers V (ix2 n 1)) := by
  pointwise [gates]
  rw [Fin.sum_univ_two]

theorem word_toInt : ∀ e : Fin 64, (BitVec.ofNat 32 e.val).toInt = e.val := by decide

/-- Reading the outputs of the experts whose numbers the words hold. -/
theorem gathered (O : FVec Ideal S128x64x1024 .f32) (J : IVec S128x2x1 32) (n : Fin 128) (j : Fin 2) (d : Fin 1024) (e : Fin 64)
    (h : J (ix3 n j 0) = BitVec.ofNat 32 e.val) :
    Host.gather gather_S128x64x1024_S128x2x1_S128x2x1024_2_1_0_0_1_2_111024 O J (ix3 n j d) = O (ix3 n e d) := by
  unfold Host.gather
  refine congrArg O (funext fun a => Fin.ext ?_)
  match a with
  | ⟨0, _⟩ => exact Nat.zero_add _
  | ⟨1, _⟩ =>
    show GatherDims.start _ (ix3 n j d) J 1 + 0 + 0 = e.val
    have hs : GatherDims.start gather_S128x64x1024_S128x2x1_S128x2x1024_2_1_0_0_1_2_111024 (ix3 n j d) J 1 =
        min (J (ix3 n j 0)).toInt.toNat (64 - 1) := by
      have hi : GatherDims.siIdx gather_S128x64x1024_S128x2x1_S128x2x1024_2_1_0_0_1_2_111024 (ix3 n j d) ⟨0, Nat.one_pos⟩ = ix3 n j 0 := by
        funext b
        match b with
        | ⟨0, _⟩ => rfl
        | ⟨1, _⟩ => rfl
        | ⟨2, _⟩ => rfl
      rw [← hi]
      rfl
    rw [hs, h]
    have hw := word_toInt e
    rw [hw]
    have := e.isLt
    omega
  | ⟨2, _⟩ => exact Nat.zero_add _

theorem wrapped_apply (I : IVec S128x2 32) (n : Fin 128) (j : Fin 2) (e : Fin 64) (h : I (ix2 n j) = BitVec.ofNat 32 e.val) :
    wrapped I (ix3 n j 0) = BitVec.ofNat 32 e.val := by
  pointwise [wrapped]
  rw [h]
  exact (by decide : ∀ e : Fin 64, Scalar.select (IntOp.cmpi .slt (BitVec.ofNat 32 e.val) 0#32)
    (IntOp.addi (BitVec.ofNat 32 e.val) 64#32) (BitVec.ofNat 32 e.val) = BitVec.ofNat 32 e.val) e

theorem within_apply (J : IVec S128x2x1 32) (n : Fin 128) (j : Fin 2) (e : Fin 64) (h : J (ix3 n j 0) = BitVec.ofNat 32 e.val) :
    within J (ix2 n j) = 1#1 := by
  pointwise [within]
  rw [show (Finset.univ : Finset (Fin 1)) = {0} from rfl]
  simp only [Finset.fold_singleton, h]
  exact (by decide : ∀ e : Fin 64, IntOp.andi (IntOp.andi (IntOp.cmpi .sge (BitVec.ofNat 32 e.val) 0#32)
    (IntOp.cmpi .sle (BitVec.ofNat 32 e.val) 63#32)) 1#1 = 1#1) e

theorem chosen_apply (O : FVec Ideal S128x64x1024 .f32) (I : IVec S128x2 32) (n : Fin 128) (j : Fin 2) (d : Fin 1024) (e : Fin 64)
    (h : I (ix2 n j) = BitVec.ofNat 32 e.val) :
    chosen O (wrapped I) (ix3 n j d) = O (ix3 n e d) := by
  have hw := wrapped_apply I n j e h
  have hi := within_apply (wrapped I) n j e hw
  have hg := gathered O (wrapped I) n j d e hw
  generalize wrapped I = J at *
  pointwise [chosen]
  rw [hi, hg]
  rfl

theorem two_apply (L : FVec Ideal S128x64 .f32) (n : Fin 128) (j : Fin 2) (f : ℕ → EReal) (hf : ∀ e : Fin 64, L (ix2 n e) = f e.val) :
    (two L).1 (ix2 n j) = L (ix2 n (sortedFrom (fun a b : Fin 64 => decide (f b < f a)) ⟨j.val, by omega⟩)) ∧
    (two L).2 (ix2 n j) = BitVec.ofNat 32 (sortedFrom (fun a b : Fin 64 => decide (f b < f a)) ⟨j.val, by omega⟩).val := by
  have ha : ∀ (i k : Fin 64), Shape.Idx.along (s := S128x64) (ix2 n i) 1 k = ix2 n k := by
    intro i k
    funext a
    match a with
    | ⟨0, _⟩ => rfl
    | ⟨1, _⟩ => rfl
  have hr : (fun k k' : Fin 64 => FloatOps.cmpfTotal (F := Ideal) (φ := .f32) CmpDirection.gt (L (ix2 n k)) (L (ix2 n k')) == 1#1) =
      fun a b : Fin 64 => decide (f b < f a) := by
    funext k k'
    rw [hf, hf]
    show (BitVec.ofBool (decide (f k' < f k)) == 1#1) = _
    cases decide (f k'.val < f k.val) <;> rfl
  constructor
  · pointwise [two, Host.topK, Host.sort2]
    rw [← hr]
    simp only [ha]
  · pointwise [two, Host.topK, Host.sort2]
    rw [← hr]
    simp only [ha]
    rfl

/-! ## The whole at an index -/

theorem whole_apply (hl : ∀ n e, ∃ r : ℝ, logit A n e = r) (a : Fin 16) (b : Fin 8) (d : Fin 1024) (n : Fin 128)
    (hn : n.val = a.val * 8 + b.val) : whole A (ix3 a b d) = result A n d := by
  have hs := sort_best_next (logits A n) (logits_ne_bot A hl n)
  have hf : ∀ e : Fin 64, scores A (ix2 n e) = logits A n e.val := fun e => by
    rw [scores_apply]; unfold logits; rw [Fin.ofNat_val_eq_self]
  have p1 : (⟨best (logits A n), best_lt _⟩ : Fin 64) = pick1 A n := Fin.ext (Nat.mod_eq_of_lt (best_lt _)).symm
  have p2 : (⟨next (logits A n), (next_spec (logits A n) (logits_ne_bot A hl n)).1⟩ : Fin 64) = pick2 A n :=
    Fin.ext (Nat.mod_eq_of_lt (next_spec (logits A n) (logits_ne_bot A hl n)).1).symm
  rw [p1, p2] at hs
  have t0 := two_apply (scores A) n 0 (logits A n) hf
  have t1 := two_apply (scores A) n 1 (logits A n) hf
  have s0 : sortedFrom (fun a b : Fin 64 => decide (logits A n b < logits A n a)) ⟨(0 : Fin 2).val, by omega⟩ = pick1 A n := hs.1
  have s1 : sortedFrom (fun a b : Fin 64 => decide (logits A n b < logits A n a)) ⟨(1 : Fin 2).val, by omega⟩ = pick2 A n := hs.2
  rw [s0, scores_apply] at t0
  rw [s1, scores_apply] at t1
  unfold whole
  rw [mixed_apply _ _ a b d n hn, chosen_apply _ _ n 0 d _ t0.2, chosen_apply _ _ n 1 d _ t1.2, outs_apply, outs_apply,
    gates_apply, gates_apply, powers_apply, powers_apply, t0.1, t1.1]
  have hle : logit A n (pick2 A n) ≤ logit A n (pick1 A n) := by
    have := topI_beats (logits A n) 63 (next (logits A n)) (by have := (next_spec _ (logits_ne_bot A hl n)).1; omega)
      (next_spec _ (logits_ne_bot A hl n)).2.1
    have e : logits A n (next (logits A n)) ≤ logits A n (best (logits A n)) := by
      rcases this with h | ⟨h, -⟩
      · exact h.le
      · exact h.le
    exact e
  rw [max_eq_left hle]
  obtain ⟨r, hr⟩ := hl n (pick1 A n)
  have h1 : Ideal.exp (logit A n (pick1 A n) - logit A n (pick1 A n)) = 1 := by
    rw [hr, ← EReal.coe_sub, sub_self, Ideal.exp_coe, Real.exp_zero, EReal.coe_one]
  rw [h1]
  rfl

theorem res_apply (m : (ℓ : Loc nD τ sig) → Buf (Elt Ideal) ℓ) (c : Dev nD) (hl : ∀ n e, ∃ r : ℝ, logit (argsOf m c) n e = r)
    (a : Fin 16) (b : Fin 8) (d : Fin 1024) (n : Fin 128) (hn : n.val = a.val * 8 + b.val) :
    (show FVec Ideal S16x8x1024 .f32 from Value.res_main_v44 m c) (ix3 a b d) = result (argsOf m c) n d := by
  rw [res_eq_whole]
  exact whole_apply _ hl a b d n hn

end Cert.Proof.Moe.Ref

end
-- ==== Proof.Finite.lean ====
/-
  Finite router inputs make finite logits.
-/
module

public import proofs.«01_k».proof.Pre_router_finite
public import proofs.«01_k».proof.Proof.Gen.Pre_router_finite
public import proofs.«01_k».proof.Proof.RefRead

@[expose] public section

noncomputable section

namespace Cert.Proof.Moe

open Idealize.ShloMosaic

/-! ## Sums, products and maxima of reals -/

/-- A value that is a real number. -/
def IsReal (x : EReal) : Prop := ∃ r : ℝ, x = r

theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.max_zero {x : EReal} : IsReal x → IsReal (max x 0) := fun hx => by
  rcases max_choice x 0 with h | h
  · rw [h]; exact hx
  · rw [h]; exact ⟨0, rfl⟩
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The layer's router inputs are real. -/
structure Args.RouterReal (A : Args) : Prop where
  x : ∀ i, IsReal (A.x i)
  w1 : ∀ i, IsReal (A.w1 i)
  b1 : ∀ i, IsReal (A.b1 i)
  w2 : ∀ i, IsReal (A.w2 i)
  b2 : ∀ i, IsReal (A.b2 i)
  wg : ∀ i, IsReal (A.wg i)
  bg : ∀ i, IsReal (A.bg i)

theorem logit_real (A : Args) (h : A.RouterReal) (n : Fin 128) (e : Fin 64) : ∃ r : ℝ, logit A n e = r := by
  have hmid : ∀ f, IsReal (mid A n f) := fun f => ((IsReal.sum _ _ fun k => (h.x _).mul (h.w1 _)).add (h.b1 _)).max_zero
  have htok : ∀ d, IsReal (tok A n d) := fun d => (IsReal.sum _ _ fun f => (hmid f).mul (h.w2 _)).add (h.b2 _)
  exact (IsReal.sum _ _ fun d => (htok d).mul (h.wg _)).add (h.bg _)

/-! ## What the precondition says -/

theorem fold_and {ι : Type} [DecidableEq ι] (s : Finset ι) (f : ι → BitVec 1) (h : s.fold IntOp.andi 1#1 f = 1#1) : ∀ i ∈ s, f i = 1#1 := by
  induction s using Finset.induction_on with
  | empty => intro i hi; exact absurd hi (Finset.notMem_empty i)
  | insert a s ha ih =>
    rw [Finset.fold_insert ha] at h
    have h2 := (by decide : ∀ p q : BitVec 1, IntOp.andi p q = 1#1 → p = 1#1 ∧ q = 1#1) _ _ h
    intro i hi
    rcases Finset.mem_insert.mp hi with rfl | hi
    · exact h2.1
    · exact ih h2.2 i hi

/-- Where «every absolute value is below infinity» is true, every element is real. -/
theorem real_of_all {s : Shape} {axes : List (Fin s.rank)} (x : FVec Ideal s .f32) (h : s.ReducesTo axes Pre_router_finite.S_)
    (hu : 0 < Pre_router_finite.S_.numel) (hb : Pre_router_finite.S_.BroadcastsInDim s (![] : Fin 0 → Fin s.rank)) (j : Pre_router_finite.S_.Idx)
    (hx : Host.reduce IntOp.andi (cmpf .olt (Host.absf x) (broadcastInDim s ![] hb (constant Pre_router_finite.S_ .f32 0x7F800000#32)))
      (constantI Pre_router_finite.S_ 1 1#1) h hu j = 1#1) (i : s.Idx) : IsReal (x i) := by
  classical
  rw [Host.reduce_eq_fold] at hx
  have hi := fold_and _ _ hx i (Finset.mem_filter.mpr ⟨Finset.mem_univ i, funext fun a => a.elim0⟩)
  have hlt : max (x i) (-x i) < ⊤ := by
    have h2 : BitVec.ofBool (decide (max (x i) (-x i) < Ideal.ofBits .f32 0x7F800000#32)) = 1#1 := hi
    rw [Ref.highest] at h2
    by_contra hn
    rw [decide_eq_false hn] at h2
    exact absurd h2 (by decide)
  have h1 : x i ≠ ⊤ := fun e => by rw [e] at hlt; simp at hlt
  have h2 : x i ≠ ⊥ := fun e => by rw [e] at hlt; simp at hlt
  exact ⟨(x i).toReal, (EReal.coe_toReal h1 h2).symm⟩

theorem and_one {s : Shape} (p q : IVec s 1) (j : s.Idx) (h : andi p q j = 1#1) : p j = 1#1 ∧ q j = 1#1 :=
  (by decide : ∀ p q : BitVec 1, IntOp.andi p q = 1#1 → p = 1#1 ∧ q = 1#1) _ _ h

/-- The precondition makes the router's inputs real. -/
theorem routerReal (A : Args) (h : Pre_router_finite.fn (F := Ideal) A.x A.w1 A.b1 A.w2 A.b2 A.wg A.bg A.e1 A.c1 A.e2 A.c2 = fun _ => 1#1) :
    A.RouterReal := by
  have h0 := congrFun h (fun a => a.elim0)
  obtain ⟨h0, h6⟩ := and_one _ _ _ h0
  obtain ⟨h0, h5⟩ := and_one _ _ _ h0
  obtain ⟨h0, h4⟩ := and_one _ _ _ h0
  obtain ⟨h0, h3⟩ := and_one _ _ _ h0
  obtain ⟨h0, h2⟩ := and_one _ _ _ h0
  obtain ⟨h0, h1⟩ := and_one _ _ _ h0
  exact ⟨real_of_all _ _ _ _ _ h0, real_of_all _ _ _ _ _ h1, real_of_all _ _ _ _ _ h2, real_of_all _ _ _ _ _ h3, real_of_all _ _ _ _ _ h4,
    real_of_all _ _ _ _ _ h5, real_of_all _ _ _ _ _ h6⟩

end Cert.Proof.Moe

end
-- ==== Proof.KerRead.lean ====
/-
  The kernel's payloads over extended reals, each at an index.
-/
module

public import proofs.«01_k».proof.Proof.Model
public import proofs.«01_k».proof.Proof.Gen.KernelIdeal.Skeleton

@[expose] public section

set_option maxRecDepth 16384

noncomputable section

namespace Cert.Proof.Moe.Ker

open Cert.KernelIdeal Cert.KernelIdeal.Gen
open Idealize.ShloMosaic Idealize.ShloMosaic.TcCoe

/-! ## The first call -/

theorem k0_pay1_apply (v0 : Vec Ideal S128x1024 .f32) (v2 : Vec Ideal S1024x2048 .f32) (v4 : Vec Ideal S1x1x2048 .f32)
    (v10 : Vec Ideal S2048x1024 .f32) (n : Fin 128) (d : Fin 1024) :
    k0_pay1 (F := Ideal) v0 v2 v4 v10 (ix2 n d) =
      ∑ f : Fin 2048, max ((∑ k : Fin 1024, v0 (ix2 n k) * v2 (ix2 k f)) + v4 (ix3 0 0 f)) 0 * v10 (ix2 f d) := by
  pointwise [k0_pay1]

theorem k0_pay3_apply (v0 : Vec Ideal S128x1024 .f32) (v2 : Vec Ideal S1024x2048 .f32) (v4 : Vec Ideal S1x1x2048 .f32)
    (v10 : Vec Ideal S2048x1024 .f32) (v21 : Vec Ideal S128x1024 .f32) (n : Fin 128) (d : Fin 1024) :
    k0_pay3 (F := Ideal) v0 v2 v4 v10 v21 (ix2 n d) = v21 (ix2 n d) + k0_pay1 (F := Ideal) v0 v2 v4 v10 (ix2 n d) := by
  pointwise [k0_pay3]

theorem k0_pay2_apply (v0 : Vec Ideal S128x1024 .f32) (v2 : Vec Ideal S1024x2048 .f32) (v4 : Vec Ideal S1x1x2048 .f32)
    (v10 : Vec Ideal S2048x1024 .f32) (n : Fin 128) (d : Fin 1024) :
    k0_pay2 (F := Ideal) v0 v2 v4 v10 (ix2 n d) = k0_pay1 (F := Ideal) v0 v2 v4 v10 (ix2 n d) := by
  pointwise [k0_pay2]

theorem k0_pay8_apply (v21 : Vec Ideal S128x1024 .f32) (v22 : Vec Ideal S1x1024 .f32) (n : Fin 128) (d : Fin 1024) :
    k0_pay8 (F := Ideal) v21 v22 (ix2 n d) = v21 (ix2 n d) + v22 (ix2 0 d) := by
  pointwise [k0_pay8]

theorem k0_pay9_apply (v21 : Vec Ideal S128x1024 .f32) (v22 : Vec Ideal S1x1024 .f32) (v27 : Vec Ideal S1024x64 .f32)
    (v29 : Vec Ideal S64x1 .f32) (n : Fin 128) (e : Fin 64) :
    k0_pay9 (F := Ideal) v21 v22 v27 v29 (ix2 e n) =
      (∑ d : Fin 1024, v27 (ix2 d e) * k0_pay8 (F := Ideal) v21 v22 (ix2 n d)) + v29 (ix2 e 0) := by
  pointwise [k0_pay9]

/-! ## The second call -/

theorem one_word : FloatOps.sitofp (F := Ideal) .f32 (BitVec.setWidth 32 1#1) = (1 : EReal) := by
  show (((BitVec.setWidth 32 1#1).toInt : ℝ) : EReal) = 1
  rw [show (BitVec.setWidth 32 1#1).toInt = 1 from by decide]
  simp
theorem zero_word : FloatOps.sitofp (F := Ideal) .f32 (BitVec.setWidth 32 0#1) = (0 : EReal) := by
  show (((BitVec.setWidth 32 0#1).toInt : ℝ) : EReal) = 0
  rw [show (BitVec.setWidth 32 0#1).toInt = 0 from by decide]
  simp
theorem word_inj {a b : ℕ} (ha : a < 64) (hb : b < 64) (h : BitVec.ofNat 32 a = BitVec.ofNat 32 b) : a = b := by
  have := congrArg BitVec.toNat h
  simp only [BitVec.toNat_ofNat] at this
  omega
theorem other_word (x e : Fin 64) (hx : x ≠ e) : IntOp.cmpi .eq (BitVec.ofNat 32 x.val) (BitVec.ofNat 32 e.val) = 0#1 := by
  have : ¬ BitVec.ofNat 32 x.val = BitVec.ofNat 32 e.val := fun h => hx (Fin.ext (word_inj x.isLt e.isLt h))
  show BitVec.ofBool (BitVec.ofNat 32 x.val == BitVec.ofNat 32 e.val) = 0#1
  rw [beq_eq_false_iff_ne.2 this]; rfl

theorem k2_pay2_apply (v51 : Vec Ideal S8x64x16 .f32) (e : Fin 64) (a : Fin 8) (b : Fin 16) (n : Fin 128) (hn : n.val = 16 * a.val + b.val) :
    k2_pay2 (F := Ideal) v51 (ix2 e n) = v51 (ix3 a e b) := by
  have ha := a.isLt
  have hb := b.isLt
  have key : ∀ (p : Fin 8) (q : Fin 16), p.val = a.val → q.val = b.val → v51 (ix3 p e q) = v51 (ix3 a e b) := fun p q hp hq => by
    rw [Fin.ext hp, Fin.ext hq]
  pointwise [k2_pay2]
  repeat' split
  all_goals
    refine key _ _ ?_ ?_
    · simp only [Fin.isValue, Fin.val_zero, Fin.val_one, Fin.coe_ofNat_eq_mod, Nat.reduceMod]; omega
    · simp only; omega

theorem k2_pay3_apply (v51 : Vec Ideal S8x64x16 .f32) (e : Fin 64) (n : Fin 128) :
    k2_pay3 (F := Ideal) v51 (ix2 e n) = k2_pay2 (F := Ideal) v51 (ix2 e n) := by
  pointwise [k2_pay3]

theorem k2_pay4_apply (v51 : Vec Ideal S8x64x16 .f32) (v73 : Vec Ideal S64x1024 .f32) (n : Fin 128) (d : Fin 1024) :
    k2_pay4 (F := Ideal) v51 v73 (ix2 n d) = ∑ e : Fin 64, k2_pay2 (F := Ideal) v51 (ix2 e n) * v73 (ix2 e d) := by
  pointwise [k2_pay4]

theorem k2_pay5_apply (i : grid2.Coords) (v8 : Vec Ideal S64x128 .f32) (n : Fin 128) (e : Fin 64) (he : (i 0).val = e.val) :
    k2_pay5 (F := Ideal) i v8 (ix2 n 0) = v8 (ix2 e n) := by
  pointwise [k2_pay5]
  rw [he, Finset.sum_eq_single e]
  · have h1 : IntOp.cmpi .eq (BitVec.ofNat 32 e.val) (BitVec.ofNat 32 e.val) = 1#1 := by
      simp [IntOp.cmpi]
    rw [h1, one_word, mul_one]
  · intro x _ hx
    rw [other_word x e hx, zero_word, mul_zero]
  · intro h; exact absurd (Finset.mem_univ _) h

theorem k2_pay6_apply (i : grid2.Coords) (v8 : Vec Ideal S64x128 .f32) (v10 v11 : Vec Ideal S128x1024 .f32) (v13 : Vec Ideal S1x1024x512 .f32)
    (v16 : Vec Ideal S1x1x512 .f32) (v24 : Vec Ideal S1x512x1024 .f32) (n : Fin 128) (d : Fin 1024) :
    k2_pay6 (F := Ideal) i v8 v10 v11 v13 v16 v24 (ix2 n d) = v10 (ix2 n d) + ∑ f : Fin 512,
      max ((∑ k : Fin 1024, v11 (ix2 n k) * v13 (ix3 0 k f)) + v16 (ix3 0 0 f)) 0 * k2_pay5 (F := Ideal) i v8 (ix2 n 0) * v24 (ix3 0 f d) := by
  pointwise [k2_pay6]

theorem k2_pay1_apply (v9 : FVec Ideal S128x1 .f32) (v27 v28 : Vec Ideal S128x1024 .f32) (v30 : Vec Ideal S1x1024x512 .f32)
    (v33 : Vec Ideal S1x1x512 .f32) (v41 : Vec Ideal S1x512x1024 .f32) (n : Fin 128) (d : Fin 1024) :
    k2_pay1 (F := Ideal) v9 v27 (k2_pay7 v28) (k2_pay8 v30) v33 v41 (ix2 n d) = v27 (ix2 n d) + ∑ f : Fin 512,
      max ((∑ k : Fin 1024, v28 (ix2 n k) * v30 (ix3 0 k f)) + v33 (ix3 0 0 f)) 0 * v9 (ix2 n 0) * v41 (ix3 0 f d) := by
  pointwise [k2_pay1, k2_pay7, k2_pay8]

end Cert.Proof.Moe.Ker

end
-- ==== Proof.RouterRead.lean ====
/-
  The router's scans over extended reals: lane by lane they find the two largest logits, and each weight is the layer's.
-/
module

public import proofs.«01_k».proof.Proof.KerRead
public import proofs.«01_k».proof.Proof.RouterVals

@[expose] public section

set_option maxRecDepth 16384

noncomputable section

namespace Cert.Proof.Moe.Ker

open Cert.KernelIdeal Cert.KernelIdeal.Gen
open Idealize.ShloMosaic Idealize.ShloMosaic.TcCoe

/-- A choice by «greater», at a lane. -/
theorem select_gt {α : Type} (a b : FVec Ideal S16 .f32) (x y : S16.Idx → α) (l : S16.Idx) :
    select (cmpf .ogt a b) x y l = if b l < a l then x l else y l := by
  show (if BitVec.ofBool (decide (b l < a l)) = 1#1 then x l else y l) = _
  by_cases h : b l < a l <;> simp [h]

/-- A choice by «same number», at a lane. -/
theorem select_eq_word {α : Type} (i : IVec S16 32) (k n : ℕ) (hk : k < 64) (hn : n < 64) (x y : S16.Idx → α) (l : S16.Idx)
    (hi : i l = BitVec.ofNat 32 k) :
    select (cmpi .eq i (expert n)) x y l = if k = n then x l else y l := by
  show (if BitVec.ofBool (i l == BitVec.ofNat 32 n) = 1#1 then x l else y l) = _
  rw [hi]
  by_cases h : k = n
  · subst h; simp
  · have : ¬ BitVec.ofNat 32 k = BitVec.ofNat 32 n := fun e => h (word_inj hk hn e)
    rw [beq_eq_false_iff_ne.2 this, if_neg h]; rfl

/-- The lowest value is the bottom. -/
theorem neg_big : (Named.named (F := Ideal) (φ := .f32) κ "neg_big" 0xFF61B1E6#32 : EReal) = ⊥ :=
  IdealRules.named_const.ideal_named_scalar κ "neg_big" (φ := .f32) 0xFF61B1E6#32 ⊥ rfl

variable (R : ℕ → FVec Ideal S16 .f32) (l : S16.Idx)

/-- A lane's logits. -/
def lane : ℕ → EReal := fun n => R n l

theorem first_at (n : ℕ) : firstV R n l = lane R l (topI (lane R l) n) ∧ firstI R n l = BitVec.ofNat 32 (topI (lane R l) n) := by
  induction n with
  | zero => exact ⟨rfl, rfl⟩
  | succ n ih =>
    rw [firstV, firstI, select_gt, select_gt, ih.1, ih.2, topI]
    show (if lane R l (topI (lane R l) n) < lane R l (n + 1) then lane R l (n + 1) else _) = _ ∧
      (if lane R l (topI (lane R l) n) < lane R l (n + 1) then BitVec.ofNat 32 (n + 1) else _) = _
    split <;> exact ⟨rfl, rfl⟩

theorem masked_at (i : IVec S16 32) (k n : ℕ) (hk : k < 64) (hn : n < 64) (hi : i l = BitVec.ofNat 32 k) :
    masked R i n l = but (lane R l) k n := by
  rw [masked, select_eq_word i k n hk hn _ _ l hi]
  show (if k = n then Named.named (F := Ideal) (φ := .f32) κ "neg_big" 0xFF61B1E6#32 else lane R l n) = _
  rw [neg_big]; rfl

theorem second_at (i : IVec S16 32) (k : ℕ) (hk : k < 64) (hi : i l = BitVec.ofNat 32 k) (n : ℕ) (hn : n ≤ 64) :
    secondV R i n l = restV (lane R l) k n ∧ secondI R i n l = BitVec.ofNat 32 (restI (lane R l) k n) := by
  induction n with
  | zero => exact ⟨neg_big, rfl⟩
  | succ n ih =>
    have ih := ih (by omega)
    rw [secondV, secondI, select_gt, select_gt, ih.1, ih.2, masked_at R l i k n hk (by omega) hi, restV, restI]
    show _ ∧ (if _ then BitVec.ofNat 32 n else _) = _
    split <;> exact ⟨rfl, rfl⟩

theorem gate1_at (m1 m2 : FVec Ideal S16 .f32) : gate1 m1 m2 l = lead (m1 l) (m2 l) := by
  pointwise [gate1, total, ratio]
  rfl

theorem gate2_at (m1 m2 : FVec Ideal S16 .f32) : gate2 m1 m2 l = tail (m1 l) (m2 l) := by
  pointwise [gate2, total, ratio]
  rfl

/-- One weight, from a lane whose logits are token `n`'s. -/
theorem wrow_at (A : Args) (hl : ∀ n e, ∃ r : ℝ, logit A n e = r) (n : Fin 128) (e : Fin 64)
    (hR : ∀ k, lane R l k = logits A n k) : wrow R e.val l = weight A n e := by
  have hf : lane R l = logits A n := funext hR
  have h1 := first_at R l 63
  have hb : topI (lane R l) 63 = best (logits A n) := by rw [hf]; rfl
  rw [hb, hf] at h1
  have h2 := second_at R l (firstI R 63) _ (best_lt _) h1.2 64 (le_refl _)
  have hs := next_spec (logits A n) (logits_ne_bot A hl n)
  rw [hf, hs.2.2.1] at h2
  have hz : ∀ l, (broadcast S16 (Scalar.ofBits (F := Ideal) .f32 0x00000000#32) : FVec Ideal S16 .f32) l = (0 : EReal) := fun l => by
    pointwise []
  unfold wrow weigh
  show FloatOps.addf _ _ = _
  show (_ : EReal) + _ = _
  rw [select_eq_word (firstI R 63) _ e.val (best_lt _) e.isLt _ _ l h1.2,
    select_eq_word _ (next (logits A n)) e.val hs.1 e.isLt _ _ l h2.2, gate1_at, gate2_at, hz, h1.1, h2.1]
  have c1 : (pick1 A n = e) = (best (logits A n) = e.val) := by
    rw [Fin.ext_iff]; simp only [pick1, Fin.val_ofNat, Nat.mod_eq_of_lt (best_lt _)]
  have c2 : (pick2 A n = e) = (next (logits A n) = e.val) := by
    rw [Fin.ext_iff]; simp only [pick2, Fin.val_ofNat, Nat.mod_eq_of_lt hs.1]
  unfold weight
  simp only [c1, c2]
  rfl

/-- The weights the router computes from the tokens' logits. -/
theorem routed_at (A : Args) (hl : ∀ n e, ∃ r : ℝ, logit A n e = r) (lg : S8x64x16.Idx → EReal) (a : Fin 8) (e : Fin 64) (b : Fin 16)
    (n : Fin 128) (h : ∀ k : Fin 64, lg (ix3 a k b) = logit A n k) :
    routed (F := Ideal) lg (ix3 a e b) = weight A n e := by
  refine wrow_at _ _ A hl n e fun k => ?_
  exact h (Fin.ofNat 64 k)

end Cert.Proof.Moe.Ker

end
-- ==== Proof.Blocks.lean ====
/-
  What each window of the two TensorCore calls holds at a point of its grid, as elements of the array it is a block of.
-/
module

public import proofs.«01_k».proof.Proof.Frame
public import proofs.«01_k».proof.Proof.RouterRead

@[expose] public section

set_option maxRecDepth 16384

noncomputable section

namespace Cert.Proof.Moe.Ker

open Cert.KernelIdeal Cert.KernelIdeal.Gen
open Idealize.ShloMosaic Idealize.ShloMosaic.TcCoe
open Idealize.ShloMosaic.Pipeline (Window arrRef Dat)

variable (V : Vals Ideal) (c : Dev nD)

/-! ## Windows that hold a whole array -/

theorem blk0_0 (t : Fin cfg0.N) : (blk0 V c 0 t : Vec Ideal S128x1024 .f32) = V c main_v0 :=
  funext fun y => congrArg (V c main_v0) (funext fun a => Fin.ext (Window.rect_emb_val_of_index_zero (cfg0.win 0) t a (by
    match a with
    | 0 => rfl
    | 1 => rfl
    ) y))
theorem blk0_4 (t : Fin cfg0.N) : (blk0 V c 4 t : Vec Ideal S1x1024 .f32) = V c main_v2 :=
  funext fun y => congrArg (V c main_v2) (funext fun a => Fin.ext (Window.rect_emb_val_of_index_zero (cfg0.win 4) t a (by
    match a with
    | 0 => rfl
    | 1 => rfl
    ) y))
theorem blk0_5 (t : Fin cfg0.N) : (blk0 V c 5 t : Vec Ideal S1024x64 .f32) = V c main_arg5 :=
  funext fun y => congrArg (V c main_arg5) (funext fun a => Fin.ext (Window.rect_emb_val_of_index_zero (cfg0.win 5) t a (by
    match a with
    | 0 => rfl
    | 1 => rfl
    ) y))
theorem blk0_6 (t : Fin cfg0.N) : (blk0 V c 6 t : Vec Ideal S64x1 .f32) = V c main_v3 :=
  funext fun y => congrArg (V c main_v3) (funext fun a => Fin.ext (Window.rect_emb_val_of_index_zero (cfg0.win 6) t a (by
    match a with
    | 0 => rfl
    | 1 => rfl
    ) y))
theorem blk2_0 (t : Fin cfg2.N) : (blk2 V c 0 t : Vec Ideal S128x1024 .f32) = V c main_v4_0 :=
  funext fun y => congrArg (V c main_v4_0) (funext fun a => Fin.ext (Window.rect_emb_val_of_index_zero (cfg2.win 0) t a (by
    match a with
    | 0 => rfl
    | 1 => rfl
    ) y))
theorem blk2_1 (t : Fin cfg2.N) : (blk2 V c 1 t : Vec Ideal S8x64x16 .f32) = V c main_v5 :=
  funext fun y => congrArg (V c main_v5) (funext fun a => Fin.ext (Window.rect_emb_val_of_index_zero (cfg2.win 1) t a (by
    match a with
    | 0 => rfl
    | 1 => rfl
    | 2 => rfl
    ) y))
theorem blk2_8 (t : Fin cfg2.N) : (blk2 V c 8 t : Vec Ideal S64x1024 .f32) = V c main_arg10 :=
  funext fun y => congrArg (V c main_arg10) (funext fun a => Fin.ext (Window.rect_emb_val_of_index_zero (cfg2.win 8) t a (by
    match a with
    | 0 => rfl
    | 1 => rfl
    ) y))

/-! ## Windows that hold a block that depends on the point -/

theorem index0_1 : ∀ t : Fin cfg0.N, (cfg0.win 1).index t 0 = 0 ∧ (cfg0.win 1).index t 1 = t.val := by decide
theorem blk0_1 (t : Fin cfg0.N) (k : Fin 1024) (f : Fin 2048) (g : Fin 4096) (hg : g.val = 2048 * t.val + f.val) :
    blk0 V c 1 t (ix2 k f) = V c main_arg1 (ix2 k g) :=
  congrArg (V c main_arg1) (funext fun a => Fin.ext ((Window.rect_emb_val (cfg0.win 1) t _ a).trans (by
    have h := index0_1 t
    match a with
    | 0 => rw [h.1]; show 0 * 1024 + k.val = k.val; omega
    | 1 => rw [h.2]; show t.val * 2048 + f.val = g.val; omega
    )))
theorem index0_2 : ∀ t : Fin cfg0.N, (cfg0.win 2).index t 0 = t.val ∧ (cfg0.win 2).index t 1 = 0 ∧ (cfg0.win 2).index t 2 = 0 := by decide
theorem blk0_2 (t : Fin cfg0.N) (u : Fin 2) (hu : u.val = t.val) (f : Fin 2048) :
    blk0 V c 2 t (ix3 0 0 f) = V c main_v1 (ix3 u 0 f) :=
  congrArg (V c main_v1) (funext fun a => Fin.ext ((Window.rect_emb_val (cfg0.win 2) t _ a).trans (by
    have h := index0_2 t
    match a with
    | 0 => rw [h.1]; show t.val * 1 + 0 = u.val; omega
    | 1 => rw [h.2.1]; show 0 * 1 + 0 = 0; omega
    | 2 => rw [h.2.2]; show 0 * 2048 + f.val = f.val; omega
    )))
theorem index0_3 : ∀ t : Fin cfg0.N, (cfg0.win 3).index t 0 = t.val ∧ (cfg0.win 3).index t 1 = 0 := by decide
theorem blk0_3 (t : Fin cfg0.N) (f : Fin 2048) (g : Fin 4096) (hg : g.val = 2048 * t.val + f.val) (d : Fin 1024) :
    blk0 V c 3 t (ix2 f d) = V c main_arg3 (ix2 g d) :=
  congrArg (V c main_arg3) (funext fun a => Fin.ext ((Window.rect_emb_val (cfg0.win 3) t _ a).trans (by
    have h := index0_3 t
    match a with
    | 0 => rw [h.1]; show t.val * 2048 + f.val = g.val; omega
    | 1 => rw [h.2]; show 0 * 1024 + d.val = d.val; omega
    )))
theorem index2_2 : ∀ t : Fin cfg2.N, (cfg2.win 2).index t 0 = t.val ∧ (cfg2.win 2).index t 1 = 0 ∧ (cfg2.win 2).index t 2 = 0 := by decide
theorem blk2_2 (t : Fin cfg2.N) (e : Fin 64) (he : e.val = t.val) (k : Fin 1024) (f : Fin 512) (g : Fin 1024) (hg : g.val = 0 + f.val) :
    blk2 V c 2 t (ix3 0 k f) = V c main_arg7 (ix3 e k g) :=
  congrArg (V c main_arg7) (funext fun a => Fin.ext ((Window.rect_emb_val (cfg2.win 2) t _ a).trans (by
    have h := index2_2 t
    match a with
    | 0 => rw [h.1]; show t.val * 1 + 0 = e.val; omega
    | 1 => rw [h.2.1]; show 0 * 1024 + k.val = k.val; omega
    | 2 => rw [h.2.2]; show 0 * 512 + f.val = g.val; omega
    )))
theorem index2_3 : ∀ t : Fin cfg2.N, (cfg2.win 3).index t 0 = t.val ∧ (cfg2.win 3).index t 1 = 0 ∧ (cfg2.win 3).index t 2 = 1 := by decide
theorem blk2_3 (t : Fin cfg2.N) (e : Fin 64) (he : e.val = t.val) (k : Fin 1024) (f : Fin 512) (g : Fin 1024) (hg : g.val = 512 + f.val) :
    blk2 V c 3 t (ix3 0 k f) = V c main_arg7 (ix3 e k g) :=
  congrArg (V c main_arg7) (funext fun a => Fin.ext ((Window.rect_emb_val (cfg2.win 3) t _ a).trans (by
    have h := index2_3 t
    match a with
    | 0 => rw [h.1]; show t.val * 1 + 0 = e.val; omega
    | 1 => rw [h.2.1]; show 0 * 1024 + k.val = k.val; omega
    | 2 => rw [h.2.2]; show 1 * 512 + f.val = g.val; omega
    )))
theorem index2_4 : ∀ t : Fin cfg2.N, (cfg2.win 4).index t 0 = t.val ∧ (cfg2.win 4).index t 1 = 0 ∧ (cfg2.win 4).index t 2 = 0 := by decide
theorem blk2_4 (t : Fin cfg2.N) (e : Fin 64) (he : e.val = t.val) (f : Fin 512) (g : Fin 1024) (hg : g.val = 0 + f.val) :
    blk2 V c 4 t (ix3 0 0 f) = V c main_v6 (ix3 e 0 g) :=
  congrArg (V c main_v6) (funext fun a => Fin.ext ((Window.rect_emb_val (cfg2.win 4) t _ a).trans (by
    have h := index2_4 t
    match a with
    | 0 => rw [h.1]; show t.val * 1 + 0 = e.val; omega
    | 1 => rw [h.2.1]; show 0 * 1 + 0 = 0; omega
    | 2 => rw [h.2.2]; show 0 * 512 + f.val = g.val; omega
    )))
theorem index2_5 : ∀ t : Fin cfg2.N, (cfg2.win 5).index t 0 = t.val ∧ (cfg2.win 5).index t 1 = 0 ∧ (cfg2.win 5).index t 2 = 1 := by decide
theorem blk2_5 (t : Fin cfg2.N) (e : Fin 64) (he : e.val = t.val) (f : Fin 512) (g : Fin 1024) (hg : g.val = 512 + f.val) :
    blk2 V c 5 t (ix3 0 0 f) = V c main_v7 (ix3 e 0 g) :=
  congrArg (V c main_v7) (funext fun a => Fin.ext ((Window.rect_emb_val (cfg2.win 5) t _ a).trans (by
    have h := index2_5 t
    match a with
    | 0 => rw [h.1]; show t.val * 1 + 0 = e.val; omega
    | 1 => rw [h.2.1]; show 0 * 1 + 0 = 0; omega
    | 2 => rw [h.2.2]; show 1 * 512 + f.val = g.val; omega
    )))
theorem index2_6 : ∀ t : Fin cfg2.N, (cfg2.win 6).index t 0 = t.val ∧ (cfg2.win 6).index t 1 = 0 ∧ (cfg2.win 6).index t 2 = 0 := by decide
theorem blk2_6 (t : Fin cfg2.N) (e : Fin 64) (he : e.val = t.val) (f : Fin 512) (g : Fin 1024) (hg : g.val = 0 + f.val) (d : Fin 1024) :
    blk2 V c 6 t (ix3 0 f d) = V c main_arg9 (ix3 e g d) :=
  congrArg (V c main_arg9) (funext fun a => Fin.ext ((Window.rect_emb_val (cfg2.win 6) t _ a).trans (by
    have h := index2_6 t
    match a with
    | 0 => rw [h.1]; show t.val * 1 + 0 = e.val; omega
    | 1 => rw [h.2.1]; show 0 * 512 + f.val = g.val; omega
    | 2 => rw [h.2.2]; show 0 * 1024 + d.val = d.val; omega
    )))
theorem index2_7 : ∀ t : Fin cfg2.N, (cfg2.win 7).index t 0 = t.val ∧ (cfg2.win 7).index t 1 = 1 ∧ (cfg2.win 7).index t 2 = 0 := by decide
theorem blk2_7 (t : Fin cfg2.N) (e : Fin 64) (he : e.val = t.val) (f : Fin 512) (g : Fin 1024) (hg : g.val = 512 + f.val) (d : Fin 1024) :
    blk2 V c 7 t (ix3 0 f d) = V c main_arg9 (ix3 e g d) :=
  congrArg (V c main_arg9) (funext fun a => Fin.ext ((Window.rect_emb_val (cfg2.win 7) t _ a).trans (by
    have h := index2_7 t
    match a with
    | 0 => rw [h.1]; show t.val * 1 + 0 = e.val; omega
    | 1 => rw [h.2.1]; show 1 * 512 + f.val = g.val; omega
    | 2 => rw [h.2.2]; show 0 * 1024 + d.val = d.val; omega
    )))

end Cert.Proof.Moe.Ker

end
-- ==== Proof.Arrays.lean ====
/-
  What the two TensorCore calls leave in the arrays they write.
-/
module

public import proofs.«01_k».proof.Proof.Blocks

@[expose] public section

set_option maxRecDepth 16384

noncomputable section

namespace Cert.Proof.Moe.Ker

open Cert.KernelIdeal Cert.KernelIdeal.Gen
open Idealize.ShloMosaic Idealize.ShloMosaic.TcCoe
open Idealize.ShloMosaic.Pipeline (Window arrRef Dat)

theorem emb0_7 (t : Fin cfg0.N) (y : S128x1024.Idx) : ((cfg0.win 7).blk t).view.emb y = y :=
  funext fun a => Fin.ext (Window.rect_emb_val_of_index_zero (cfg0.win 7) t a (by
    match a with
    | 0 => rfl
    | 1 => rfl) y)
theorem emb0_8 (t : Fin cfg0.N) (y : S8x64x16.Idx) : ((cfg0.win 8).blk t).view.emb y = y :=
  funext fun a => Fin.ext (Window.rect_emb_val_of_index_zero (cfg0.win 8) t a (by
    match a with
    | 0 => rfl
    | 1 => rfl
    | 2 => rfl) y)
theorem emb2_9 (t : Fin cfg2.N) (y : S128x1024.Idx) : ((cfg2.win 9).blk t).view.emb y = y :=
  funext fun a => Fin.ext (Window.rect_emb_val_of_index_zero (cfg2.win 9) t a (by
    match a with
    | 0 => rfl
    | 1 => rfl) y)

theorem exit0_tok (V : Vln Ideal) (c : Dev nD) : exit0 V c (dr main_v4_0) = ffnTok (valsOf V) c := by
  refine (Pipeline.Dat.withArrays_arrAt (dat0 (valsOf V) (fun c => K.Otc c 0) (recAt 0) c) sharedIn0 (V c) (fun _ => rfl) 7).trans ?_
  refine (dat0 (valsOf V) (fun c => K.Otc c 0) (recAt 0) c).arrAt_eq_of_cover 7 (ffnTok (valsOf V) c) (fun t _ => ?_)
    fun i => ⟨t0_1, (flush0_7 t0_1).2 rfl, ?_⟩
  · unfold Dat.flushed
    rw [after0_7]
    funext y
    exact (congrArg (ffnTok (valsOf V) c) (emb0_7 t y)).symm
  · have h := ((cfg0.win 7).blk t0_1).view.emb_mem_set i
    rwa [emb0_7] at h

theorem exit0_log (V : Vln Ideal) (c : Dev nD) : exit0 V c (dr main_v4_1) = ffnLog (valsOf V) c := by
  refine (Pipeline.Dat.withArrays_arrAt (dat0 (valsOf V) (fun c => K.Otc c 0) (recAt 0) c) sharedIn0 (V c) (fun _ => rfl) 8).trans ?_
  refine (dat0 (valsOf V) (fun c => K.Otc c 0) (recAt 0) c).arrAt_eq_of_cover 8 (ffnLog (valsOf V) c) (fun t _ => ?_)
    fun i => ⟨t0_1, (flush0_8 t0_1).2 rfl, ?_⟩
  · unfold Dat.flushed
    rw [after0_8]
    funext y
    exact (congrArg (ffnLog (valsOf V) c) (emb0_8 t y)).symm
  · have h := ((cfg0.win 8).blk t0_1).view.emb_mem_set i
    rwa [emb0_8] at h

theorem exit2_out (V : Vln Ideal) (c : Dev nD) : exit2 V c (dr main_v8) = expAcc (valsOf V) c 64 := by
  refine (Pipeline.Dat.withArrays_arrAt (dat2 (valsOf V) (fun c => K.Otc c 1) (recAt 1) c) sharedIn2 (V c) (fun _ => rfl) 9).trans ?_
  refine (dat2 (valsOf V) (fun c => K.Otc c 1) (recAt 1) c).arrAt_eq_of_cover 9 (expAcc (valsOf V) c 64) (fun t _ => ?_)
    fun i => ⟨ptE 63, (flush2_9 (ptE 63)).2 rfl, ?_⟩
  · unfold Dat.flushed
    rw [after2_9]
    funext y
    exact (congrArg (expAcc (valsOf V) c 64) (emb2_9 t y)).symm
  · have h := ((cfg2.win 9).blk (ptE 63)).view.emb_mem_set i
    rwa [emb2_9] at h

end Cert.Proof.Moe.Ker

end
-- ==== Proof.Inputs.lean ====
/-
  What the two TensorCore calls read: the arguments, the reshaped ones, and, in the second, what the first and the router left.
-/
module

public import proofs.«01_k».proof.Proof.Arrays

@[expose] public section

set_option maxRecDepth 16384

noncomputable section

namespace Cert.Proof.Moe.Ker

open Cert.KernelIdeal Cert.KernelIdeal.Gen
open Idealize.ShloMosaic Idealize.ShloMosaic.TcCoe
open Idealize.ShloMosaic.Pipeline (arrRef)

variable (m : (ℓ : Loc nD τ sig) → Buf (Elt Ideal) ℓ) (c : Dev nD)

/-- The layer's arguments as the kernel is launched with them. -/
def argsOf : Args where
  x := m ((c.tc : Thread nD τ).loc main_arg0)
  w1 := m ((c.tc : Thread nD τ).loc main_arg1)
  b1 := m ((c.tc : Thread nD τ).loc main_arg2)
  w2 := m ((c.tc : Thread nD τ).loc main_arg3)
  b2 := m ((c.tc : Thread nD τ).loc main_arg4)
  wg := m ((c.tc : Thread nD τ).loc main_arg5)
  bg := m ((c.tc : Thread nD τ).loc main_arg6)
  e1 := m ((c.tc : Thread nD τ).loc main_arg7)
  c1 := m ((c.tc : Thread nD τ).loc main_arg8)
  e2 := m ((c.tc : Thread nD τ).loc main_arg9)
  c2 := m ((c.tc : Thread nD τ).loc main_arg10)

/-! ## The reshapes at an index -/

theorem rows_apply (x : FVec Ideal S16x8x1024 .f32) (n : Fin 128) (k : Fin 1024) :
    shapeCast S128x1024 x shapeCasts_S16x8x1024_S128x1024 (ix2 n k) = x (ix3 (⟨n.val / 8, by omega⟩ : Fin 16) (⟨n.val % 8, by omega⟩ : Fin 8) k) := by
  pointwise []

theorem halves_apply (x : FVec Ideal S4096 .f32) (u : Fin 2) (f : Fin 2048) (g : Fin 4096) (hg : g.val = 2048 * u.val + f.val) :
    shapeCast S2x1x2048 x shapeCasts_S4096_S2x1x2048 (ix3 u 0 f) = x (ix1 g) := by
  have hlt : 2048 * u.val + f.val < 4096 := hg ▸ g.isLt
  obtain rfl : (⟨2048 * u.val + f.val, hlt⟩ : Fin 4096) = g := Fin.ext hg.symm
  pointwise []
  refine congrArg (fun q : Fin 4096 => x (ix1 q)) (Fin.ext ?_)
  show u.val * 2048 + f.val = 2048 * u.val + f.val
  omega

theorem line_apply (x : FVec Ideal S1024 .f32) (d : Fin 1024) :
    shapeCast S1x1024 x shapeCasts_S1024_S1x1024 (ix2 0 d) = x (ix1 d) := by
  pointwise []

theorem column_apply (x : FVec Ideal S64 .f32) (e : Fin 64) :
    shapeCast S64x1 x shapeCasts_S64_S64x1 (ix2 e 0) = x (ix1 e) := by
  pointwise []

theorem stack_apply (x : FVec Ideal S64x1024 .f32) (e : Fin 64) (f : Fin 1024) :
    shapeCast S64x1x1024 x shapeCasts_S64x1024_S64x1x1024 (ix3 e 0 f) = x (ix2 e f) := by
  pointwise []

theorem unrows_apply (x : FVec Ideal S128x1024 .f32) (a : Fin 16) (b : Fin 8) (d : Fin 1024) (n : Fin 128) (hn : n.val = a.val * 8 + b.val) :
    shapeCast S16x8x1024 x shapeCasts_S128x1024_S16x8x1024 (ix3 a b d) = x (ix2 n d) := by
  have hlt : a.val * 8 + b.val < 128 := hn ▸ n.isLt
  obtain rfl : (⟨a.val * 8 + b.val, hlt⟩ : Fin 128) = n := Fin.ext hn.symm
  pointwise []

/-! ## At the first call -/

theorem ffn_v0 (n : Fin 128) (k : Fin 1024) : valsOf (atFfn m) c main_v0 (ix2 n k) = row (argsOf m c) n k := by
  have h : atFfn m c (dr main_v0) = shapeCast S128x1024 (m (c, dr main_arg0) : FVec Ideal S16x8x1024 .f32) shapeCasts_S16x8x1024_S128x1024 := by
    unfold atFfn rs0 rs1 rs2 rs3
    rw [reshape_keep _ _ _ _ _ _ _ main_v0 (by decide), reshape_keep _ _ _ _ _ _ _ main_v0 (by decide), reshape_keep _ _ _ _ _ _ _ main_v0 (by decide), StableHlo.reshape_result]
    rfl
  exact (congrFun h (ix2 n k)).trans (rows_apply _ n k)

theorem ffn_v1 (u : Fin 2) (f : Fin 2048) (g : Fin 4096) (hg : g.val = 2048 * u.val + f.val) :
    valsOf (atFfn m) c main_v1 (ix3 u 0 f) = (argsOf m c).b1 (ix1 g) := by
  have h : atFfn m c (dr main_v1) = shapeCast S2x1x2048 (m (c, dr main_arg2) : FVec Ideal S4096 .f32) shapeCasts_S4096_S2x1x2048 := by
    unfold atFfn rs0 rs1 rs2 rs3
    rw [reshape_keep _ _ _ _ _ _ _ main_v1 (by decide), reshape_keep _ _ _ _ _ _ _ main_v1 (by decide), StableHlo.reshape_result,
      reshape_keep _ _ _ _ _ _ _ main_arg2 (by decide)]
    rfl
  exact (congrFun h (ix3 u 0 f)).trans (halves_apply _ u f g hg)

theorem ffn_v2 (d : Fin 1024) : valsOf (atFfn m) c main_v2 (ix2 0 d) = (argsOf m c).b2 (ix1 d) := by
  have h : atFfn m c (dr main_v2) = shapeCast S1x1024 (m (c, dr main_arg4) : FVec Ideal S1024 .f32) shapeCasts_S1024_S1x1024 := by
    unfold atFfn rs0 rs1 rs2 rs3
    rw [reshape_keep _ _ _ _ _ _ _ main_v2 (by decide), StableHlo.reshape_result,
      reshape_keep _ _ _ _ _ _ _ main_arg4 (by decide), reshape_keep _ _ _ _ _ _ _ main_arg4 (by decide)]
    rfl
  exact (congrFun h (ix2 0 d)).trans (line_apply _ d)

theorem ffn_v3 (e : Fin 64) : valsOf (atFfn m) c main_v3 (ix2 e 0) = (argsOf m c).bg (ix1 e) := by
  have h : atFfn m c (dr main_v3) = shapeCast S64x1 (m (c, dr main_arg6) : FVec Ideal S64 .f32) shapeCasts_S64_S64x1 := by
    unfold atFfn rs0 rs1 rs2 rs3
    rw [StableHlo.reshape_result, reshape_keep _ _ _ _ _ _ _ main_arg6 (by decide), reshape_keep _ _ _ _ _ _ _ main_arg6 (by decide),
      reshape_keep _ _ _ _ _ _ _ main_arg6 (by decide)]
    rfl
  exact (congrFun h (ix2 e 0)).trans (column_apply _ e)

theorem ffn_arg1 : valsOf (atFfn m) c main_arg1 = (argsOf m c).w1 := atFfn_keep m c main_arg1 (by decide)
theorem ffn_arg3 : valsOf (atFfn m) c main_arg3 = (argsOf m c).w2 := atFfn_keep m c main_arg3 (by decide)
theorem ffn_arg5 : valsOf (atFfn m) c main_arg5 = (argsOf m c).wg := atFfn_keep m c main_arg5 (by decide)

/-! ## At the second call -/

theorem expert_v4 : valsOf (atExpert m) c main_v4_0 = ffnTok (valsOf (atFfn m)) c := by
  refine Eq.trans ?_ (exit0_tok (atFfn m) c)
  show atExpert m c (dr main_v4_0) = _
  unfold atExpert rs6 rs7
  rw [reshape_keep _ _ _ _ _ _ _ main_v4_0 (by decide), reshape_keep _ _ _ _ _ _ _ main_v4_0 (by decide)]
  exact Function.update_of_ne (StableHlo.devRef_ne_of_ne (by decide)) _ _

theorem expert_v5 : valsOf (atExpert m) c main_v5 = routed (F := Ideal) (ffnLog (valsOf (atFfn m)) c) := by
  rw [← exit0_log (atFfn m) c]
  show atExpert m c (dr main_v5) = _
  unfold atExpert rs6 rs7
  rw [reshape_keep _ _ _ _ _ _ _ main_v5 (by decide), reshape_keep _ _ _ _ _ _ _ main_v5 (by decide)]
  exact Function.update_self _ _ _

/-- The experts' first biases are as launched until they are reshaped. -/
theorem routerOut_arg8 : routerOut m c (dr main_arg8) = m (c, dr main_arg8) := by
  unfold routerOut
  rw [Function.update_of_ne (StableHlo.devRef_ne_of_ne (by decide))]
  exact (exit0_keep _ c main_arg8 (by decide)).trans (atFfn_keep m c main_arg8 (by decide))

theorem expert_v6 (e : Fin 64) (f : Fin 1024) : valsOf (atExpert m) c main_v6 (ix3 e 0 f) = (argsOf m c).c1 (ix2 e f) := by
  have h : atExpert m c (dr main_v6) = shapeCast S64x1x1024 (m (c, dr main_arg8) : FVec Ideal S64x1024 .f32) shapeCasts_S64x1024_S64x1x1024 := by
    unfold atExpert rs6 rs7
    rw [reshape_keep _ _ _ _ _ _ _ main_v6 (by decide), StableHlo.reshape_result, routerOut_arg8]
    rfl
  exact (congrFun h (ix3 e 0 f)).trans (stack_apply _ e f)

theorem expert_v7 (e : Fin 64) (f : Fin 1024) : valsOf (atExpert m) c main_v7 (ix3 e 0 f) = (argsOf m c).c1 (ix2 e f) := by
  have h : atExpert m c (dr main_v7) = shapeCast S64x1x1024 (m (c, dr main_arg8) : FVec Ideal S64x1024 .f32) shapeCasts_S64x1024_S64x1x1024 := by
    unfold atExpert rs6 rs7
    rw [StableHlo.reshape_result, reshape_keep _ _ _ _ _ _ _ main_arg8 (by decide), routerOut_arg8]
    rfl
  exact (congrFun h (ix3 e 0 f)).trans (stack_apply _ e f)

theorem expert_arg7 : valsOf (atExpert m) c main_arg7 = (argsOf m c).e1 := atExpert_keep m c main_arg7 (by decide) (by decide)
theorem expert_arg9 : valsOf (atExpert m) c main_arg9 = (argsOf m c).e2 := atExpert_keep m c main_arg9 (by decide) (by decide)
theorem expert_arg10 : valsOf (atExpert m) c main_arg10 = (argsOf m c).c2 := atExpert_keep m c main_arg10 (by decide) (by decide)

/-! ## At the end -/

theorem end_v9 (a : Fin 16) (b : Fin 8) (d : Fin 1024) (n : Fin 128) (hn : n.val = a.val * 8 + b.val) :
    (show FVec Ideal S16x8x1024 .f32 from atEnd m c (dr main_v9)) (ix3 a b d) = expAcc (valsOf (atExpert m)) c 64 (ix2 n d) := by
  have h : atEnd m c (dr main_v9) = shapeCast S16x8x1024 (expAcc (valsOf (atExpert m)) c 64 : FVec Ideal S128x1024 .f32) shapeCasts_S128x1024_S16x8x1024 := by
    unfold atEnd rs9
    rw [StableHlo.reshape_result, expertOut, exit2_out]
    rfl
  exact (congrFun h (ix3 a b d)).trans (unrows_apply _ a b d n hn)

end Cert.Proof.Moe.Ker

end
-- ==== Proof.Value.lean ====
/-
  The kernel's result over extended reals: tokens, logits, weights and the sum over the sixty-four experts are the layer's.
-/
module

public import proofs.«01_k».proof.Proof.Inputs

@[expose] public section

set_option maxRecDepth 16384

noncomputable section

namespace Cert.Proof.Moe.Ker

open Cert.KernelIdeal Cert.KernelIdeal.Gen
open Idealize.ShloMosaic Idealize.ShloMosaic.TcCoe

variable (m : (ℓ : Loc nD τ sig) → Buf (Elt Ideal) ℓ) (c : Dev nD)

/-- A half of the first block's product is half of the sum over the 4096 hidden units. -/
theorem half_at (t : Fin cfg0.N) (u : Fin 2) (hu : u.val = t.val) (n : Fin 128) (d : Fin 1024) :
    k0_pay1 (F := Ideal) (blk0 (valsOf (atFfn m)) c 0 t) (blk0 (valsOf (atFfn m)) c 1 t) (blk0 (valsOf (atFfn m)) c 2 t) (blk0 (valsOf (atFfn m)) c 3 t) (ix2 n d) =
      ∑ f : Fin 2048, mid (argsOf m c) n ⟨2048 * u.val + f.val, by omega⟩ * (argsOf m c).w2 (ix2 ⟨2048 * u.val + f.val, by omega⟩ d) := by
  rw [k0_pay1_apply]
  refine Finset.sum_congr rfl fun f _ => ?_
  rw [blk0_3 (valsOf (atFfn m)) c t f ⟨2048 * u.val + f.val, by omega⟩ (by show 2048 * u.val + f.val = _; omega) d, blk0_2 (valsOf (atFfn m)) c t u hu f,
    ffn_v1 m c u f ⟨2048 * u.val + f.val, by omega⟩ rfl, ffn_arg3, blk0_0]
  refine congrArg (fun s => max (s + _) 0 * _) (Finset.sum_congr rfl fun k _ => ?_)
  rw [blk0_1 (valsOf (atFfn m)) c t k f ⟨2048 * u.val + f.val, by omega⟩ (by show 2048 * u.val + f.val = _; omega), ffn_v0, ffn_arg1]

theorem acc_at (n : Fin 128) (d : Fin 1024) :
    ffnAcc (valsOf (atFfn m)) c (ix2 n d) = ∑ f : Fin 4096, mid (argsOf m c) n f * (argsOf m c).w2 (ix2 f d) := by
  unfold ffnAcc ffnMid
  rw [k0_pay3_apply, k0_pay2_apply, half_at m c pt0 0 rfl, half_at m c pt1 1 rfl, Fin.sum_univ_two_halves 2048 2048 rfl]
  refine congrArg₂ (· + ·) (Finset.sum_congr rfl fun f _ => ?_) (Finset.sum_congr rfl fun f _ => ?_)
  · have e : (⟨2048 * (0 : Fin 2).val + f.val, by omega⟩ : Fin 4096) = ⟨f.val, by omega⟩ := Fin.ext (Nat.zero_add _)
    rw [e]
  · rfl

theorem tok_at (n : Fin 128) (d : Fin 1024) : ffnTok (valsOf (atFfn m)) c (ix2 n d) = tok (argsOf m c) n d := by
  unfold ffnTok tok
  rw [k0_pay8_apply, acc_at, blk0_4, ffn_v2]

theorem log_at (a : Fin 8) (e : Fin 64) (b : Fin 16) (n : Fin 128) (hn : n.val = 16 * a.val + b.val) :
    ffnLog (valsOf (atFfn m)) c (ix3 a e b) = logit (argsOf m c) n e := by
  obtain rfl : tokAt a b = n := Fin.ext hn.symm
  unfold ffnLog
  show k0_pay9 (F := Ideal) _ _ _ _ (ix2 e (tokAt a b)) = _
  rw [k0_pay9_apply, blk0_5, blk0_6, ffn_v3, ffn_arg5]
  refine congrArg (· + _) (Finset.sum_congr rfl fun d _ => ?_)
  rw [mul_comm]
  exact congrArg (· * _) (tok_at m c (tokAt a b) d)

variable (hl : ∀ n e, ∃ r : ℝ, logit (argsOf m c) n e = r)
include hl

theorem weight_at (e : Fin 64) (n : Fin 128) : k2_pay2 (F := Ideal) (blk2 (valsOf (atExpert m)) c 1 (ptE 0)) (ix2 e n) = weight (argsOf m c) n e := by
  have ha : n.val / 16 < 8 := by omega
  have hb : n.val % 16 < 16 := by omega
  have hn : n.val = 16 * (⟨n.val / 16, ha⟩ : Fin 8).val + (⟨n.val % 16, hb⟩ : Fin 16).val := by simp only; omega
  rw [k2_pay2_apply _ e ⟨n.val / 16, ha⟩ ⟨n.val % 16, hb⟩ n hn, blk2_1, expert_v5]
  exact routed_at (argsOf m c) hl _ _ e _ n fun k => log_at m c _ k _ n hn

theorem start_at (n : Fin 128) (d : Fin 1024) : expAcc (valsOf (atExpert m)) c 0 (ix2 n d) = ∑ e : Fin 64, weight (argsOf m c) n e * (argsOf m c).c2 (ix2 e d) := by
  unfold expAcc
  rw [k2_pay4_apply, blk2_8, expert_arg10]
  exact Finset.sum_congr rfl fun e _ => by rw [weight_at m c hl]

/-- One expert's part. -/
theorem step_at (e : Fin 64) (n : Fin 128) (d : Fin 1024) :
    expAcc (valsOf (atExpert m)) c (e.val + 1) (ix2 n d) =
      expAcc (valsOf (atExpert m)) c e.val (ix2 n d) + ∑ f : Fin 1024, hid (argsOf m c) e n f * weight (argsOf m c) n e * (argsOf m c).e2 (ix3 e f d) := by
  have hp : (ptE e.val).val = e.val := Nat.mod_eq_of_lt e.isLt
  have hw : k2_pay5 (F := Ideal) (grid2.coords (ptE e.val)) (expW (valsOf (atExpert m)) c) (ix2 n 0) = weight (argsOf m c) n e := by
    rw [k2_pay5_apply _ _ n e ?_]
    · unfold expW; rw [k2_pay3_apply, weight_at m c hl]
    · have hc : (grid2.coords (ptE e.val) 0).val = (ptE e.val).val / 1 % 64 := Pipeline.Grid.coords_val _ 0 (by decide) rfl
      rw [hc, hp, Nat.div_one, Nat.mod_eq_of_lt e.isLt]
  rw [expAcc]
  unfold expertStep
  rw [k2_pay1_apply, k2_pay6_apply, hw, Fin.sum_univ_two_halves 512 512 rfl, add_assoc]
  refine congrArg (_ + ·) (congrArg₂ (· + ·) (Finset.sum_congr rfl fun f _ => ?_) (Finset.sum_congr rfl fun f _ => ?_))
  · rw [blk2_6 (valsOf (atExpert m)) c _ e hp.symm f ⟨f.val, by omega⟩ (Nat.zero_add _).symm d,
      blk2_4 (valsOf (atExpert m)) c _ e hp.symm f ⟨f.val, by omega⟩ (Nat.zero_add _).symm, expert_v6, expert_arg9, blk2_0, expert_v4]
    refine congrArg (fun s => max (s + _) 0 * _ * _) (Finset.sum_congr rfl fun k _ => ?_)
    rw [blk2_2 (valsOf (atExpert m)) c _ e hp.symm k f ⟨f.val, by omega⟩ (Nat.zero_add _).symm, expert_arg7, tok_at]
  · rw [blk2_7 (valsOf (atExpert m)) c _ e hp.symm f ⟨512 + f.val, by omega⟩ rfl d,
      blk2_5 (valsOf (atExpert m)) c _ e hp.symm f ⟨512 + f.val, by omega⟩ rfl, expert_v7, expert_arg9, blk2_0, expert_v4]
    refine congrArg (fun s => max (s + _) 0 * _ * _) (Finset.sum_congr rfl fun k _ => ?_)
    rw [blk2_3 (valsOf (atExpert m)) c _ e hp.symm k f ⟨512 + f.val, by omega⟩ rfl, expert_arg7, tok_at]

theorem sum_at (n : Fin 128) (d : Fin 1024) : expAcc (valsOf (atExpert m)) c 64 (ix2 n d) = result (argsOf m c) n d := by
  have key : ∀ k (hk : k ≤ 64), expAcc (valsOf (atExpert m)) c k (ix2 n d) = expAcc (valsOf (atExpert m)) c 0 (ix2 n d) +
      ∑ e : Fin k, ∑ f : Fin 1024, hid (argsOf m c) (e.castLE hk) n f * weight (argsOf m c) n (e.castLE hk) * (argsOf m c).e2 (ix3 (e.castLE hk) f d) := by
    intro k
    induction k with
    | zero => intro _; rw [Finset.univ_eq_empty, Finset.sum_empty, add_zero]
    | succ k ih =>
      intro hk
      rw [step_at m c hl ⟨k, hk⟩ n d, ih (by omega), Fin.sum_univ_castSucc (n := k), add_assoc]
      rfl
  rw [key 64 le_rfl, start_at m c hl]
  exact sum_weighted (argsOf m c) hl n d

/-- The kernel's result. -/
theorem res_apply (a : Fin 16) (b : Fin 8) (d : Fin 1024) (n : Fin 128) (hn : n.val = a.val * 8 + b.val) :
    (show FVec Ideal S16x8x1024 .f32 from atEnd m c (dr main_v9)) (ix3 a b d) = result (argsOf m c) n d :=
  (end_v9 m c a b d n hn).trans (sum_at m c hl n d)

end Cert.Proof.Moe.Ker

end
-- ==== Proof.Algebraic.lean ====
/-
  The value claim: from equal arguments whose router inputs are finite, kernel and reference end with the same result.
-/
module

public import proofs.«01_k».proof.Defs
public import proofs.«01_k».proof.Proof.Finite
public import proofs.«01_k».proof.Proof.Value

@[expose] public section

set_option maxRecDepth 16384

noncomputable section

namespace Cert.Proof.Moe

open Idealize.ShloMosaic Idealize.ShloMosaic.TcCoe Idealize.SL.Sem

/-- The layer's output as an array. -/
def output (A : Args) : Arr3 16 8 1024 := fun i =>
  result A (Fin.ofNat 128 ((i 0 : Fin 16).val * 8 + (i 1 : Fin 8).val)) (i 2 : Fin 1024)

theorem token_val (a : Fin 16) (b : Fin 8) : (Fin.ofNat 128 (a.val * 8 + b.val)).val = a.val * 8 + b.val :=
  Nat.mod_eq_of_lt (by omega)

theorem kernel_output (m : (ℓ : Loc Cert.KernelIdeal.nD Cert.KernelIdeal.τ Cert.KernelIdeal.sig) → Buf (Elt Ideal) ℓ) (c : Dev Cert.KernelIdeal.nD)
    (h : (Ker.argsOf m c).RouterReal) : atEnd m c (dr Cert.KernelIdeal.main_v9) = output (Ker.argsOf m c) := by
  refine funext fun (i : Cert.KernelIdeal.S16x8x1024.Idx) => ?_
  obtain ⟨a, b, d, rfl⟩ : ∃ (a : Fin 16) (b : Fin 8) (d : Fin 1024), i = ix3 a b d := ⟨i 0, i 1, i 2, (ix3_eta i).symm⟩
  exact Ker.res_apply m c (logit_real _ h) a b d _ (token_val a b)

theorem reference_output (m : (ℓ : Loc Cert.ReferenceIdeal.nD Cert.ReferenceIdeal.τ Cert.ReferenceIdeal.sig) → Buf (Elt Ideal) ℓ)
    (c : Dev Cert.ReferenceIdeal.nD) (h : (Ref.argsOf m c).RouterReal) :
    Cert.ReferenceIdeal.Value.res_main_v44 m c = output (Ref.argsOf m c) := by
  refine funext fun (i : Cert.ReferenceIdeal.S16x8x1024.Idx) => ?_
  obtain ⟨a, b, d, rfl⟩ : ∃ (a : Fin 16) (b : Fin 8) (d : Fin 1024), i = ix3 a b d := ⟨i 0, i 1, i 2, (ix3_eta i).symm⟩
  exact Ref.res_apply m c (logit_real _ h) a b d _ (token_val a b)

/-- Kernel and reference end with the same result. -/
theorem algebraic_kernel_reference : Cert.algebraic_KernelIdeal_ReferenceIdeal_pre_router_finite := fun m ρ m' ρ' hpre hargs => by
  have hA : ∀ c, Ref.argsOf m' c = Ker.argsOf m c := fun c => by
    obtain ⟨h0, h1, h2, h3, h4, h5, h6, h7, h8, h9, h10⟩ := hargs c
    unfold Ref.argsOf Ker.argsOf
    congr 1
  have hr : ∀ c, (Ker.argsOf m c).RouterReal := fun c => routerReal (Ker.argsOf m c) (hpre c)
  refine ⟨fun c => output (Ker.argsOf m c), ?_, ?_⟩
  · refine (θ_run Cert.KernelIdeal.defs _ _).mono (fun s h c => ⟨?_, args_kept m h c⟩) (run_main (F := Ideal) m ρ)
    exact (h.1 c ⟨dr Cert.KernelIdeal.main_v9, by decide⟩).trans (kernel_output m c (hr c))
  · refine (θ_run Cert.ReferenceIdeal.defs _ _).mono (fun s h c => ⟨(h c).1.trans ?_, (h c).2⟩) (Cert.ReferenceIdeal.Value.run (F := Ideal) m' ρ')
    refine Eq.trans ?_ (congrArg output (hA c))
    exact reference_output m' c (by rw [hA c]; exact hr c)

end Cert.Proof.Moe

end
-- ==== Proof.lean ====
/-
  The certificate: the frames, the named constant, and the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_router_finite
public import proofs.«01_k».proof.Proof.Gen.ReferenceIdeal.Run
public import proofs.«01_k».proof.Proof.KernelFrame
public import proofs.«01_k».proof.Proof.RefFrame
public import proofs.«01_k».proof.Proof.Algebraic

@[expose] public section

noncomputable section

namespace Cert.Proof

open Idealize.ShloMosaic Idealize.SL.Sem Cert.Proof.Moe

theorem claim : Cert.Claim :=
  ⟨Cert.Kernel.Gen.facts, Cert.KernelIdeal.Gen.facts, Cert.ReferenceIdeal.Gen.facts, Cert.Pre_router_finite.Gen.facts, frame_kernel,
    frame_kernelIdeal, fun m ρ _ => frame_kernelIdeal m ρ trivial, frame_referenceIdeal, fun m ρ _ => frame_referenceIdeal m ρ trivial,
    preserves_named, algebraic_kernel_reference⟩

end Cert.Proof

end
